-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x2 : Shape := ⟨2, ![5000, 2]⟩
abbrev S5000x4 : Shape := ⟨2, ![5000, 4]⟩
abbrev S5000 : Shape := ⟨1, ![5000]⟩
abbrev S_ : Shape := ⟨0, ![]⟩
abbrev S16x5120 : Shape := ⟨2, ![16, 5120]⟩
abbrev S4x5000 : Shape := ⟨2, ![4, 5000]⟩
abbrev S1 : Shape := ⟨1, ![1]⟩
abbrev S2 : Shape := ⟨1, ![2]⟩
abbrev S2x5000 : Shape := ⟨2, ![2, 5000]⟩
abbrev S8x384 : Shape := ⟨2, ![8, 384]⟩
abbrev S8x5120 : Shape := ⟨2, ![8, 5120]⟩
abbrev S320x5120 : Shape := ⟨2, ![320, 5120]⟩
abbrev S1x5120 : Shape := ⟨2, ![1, 5120]⟩
abbrev S1x1 : Shape := ⟨2, ![1, 1]⟩
abbrev S8x8 : Shape := ⟨2, ![8, 8]⟩
abbrev S5120x8 : Shape := ⟨2, ![5120, 8]⟩
abbrev S5120x1 : Shape := ⟨2, ![5120, 1]⟩
abbrev S1x128 : Shape := ⟨2, ![1, 128]⟩
abbrev S5120x320 : Shape := ⟨2, ![5120, 320]⟩
abbrev S5120x128 : Shape := ⟨2, ![5120, 128]⟩
abbrev S320x128 : Shape := ⟨2, ![320, 128]⟩
abbrev S320x1 : Shape := ⟨2, ![320, 1]⟩
abbrev S5120 : Shape := ⟨1, ![5120]⟩
abbrev S1x1x5120 : Shape := ⟨3, ![1, 1, 5120]⟩
abbrev S1x1x1 : Shape := ⟨3, ![1, 1, 1]⟩
abbrev S1x384 : Shape := ⟨2, ![1, 384]⟩
abbrev S5120x384 : Shape := ⟨2, ![5120, 384]⟩
abbrev S4x300 : Shape := ⟨2, ![4, 300]⟩
abbrev S300x4 : Shape := ⟨2, ![300, 4]⟩
abbrev S1x300 : Shape := ⟨2, ![1, 300]⟩
abbrev S300 : Shape := ⟨1, ![300]⟩

abbrev nBuf : Space → Nat
  | .hbm => 40
  | .vmem => 4
  | .smem => 0
  | _ => 0

abbrev bufTy : (tb : Table) → Fin (tcTables nBuf tb) → BufTy
  | .hbm, ⟨0, _⟩ => ⟨S5000x2, .f32⟩
  | .hbm, ⟨1, _⟩ => ⟨S5000x4, .f32⟩
  | .hbm, ⟨2, _⟩ => ⟨S5000, .f32⟩
  | .hbm, ⟨3, _⟩ => ⟨S5000x4, .f32⟩
  | .hbm, ⟨4, _⟩ => ⟨S_, .f32⟩
  | .hbm, ⟨5, _⟩ => ⟨S16x5120, .f32⟩
  | .hbm, ⟨6, _⟩ => ⟨S4x5000, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S16x5120, .f32⟩
  | .hbm, ⟨13, _⟩ => ⟨S4x5000, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S16x5120, .f32⟩
  | .hbm, ⟨20, _⟩ => ⟨S2x5000, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S16x5120, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S16x5120, .f32⟩
  | .hbm, ⟨33, _⟩ => ⟨S8x384, .f32⟩
  | .hbm, ⟨34, _⟩ => ⟨S4x300, .f32⟩
  | .hbm, ⟨35, _⟩ => ⟨S300x4, .f32⟩
  | .hbm, ⟨36, _⟩ => ⟨S1x300, .f32⟩
  | .hbm, ⟨37, _⟩ => ⟨S300, .f32⟩
  | .hbm, ⟨38, _⟩ => ⟨S_, .i32⟩
  | .hbm, ⟨39, _⟩ => ⟨S300, .i32⟩
  | .local _ .vmem, ⟨0, _⟩ => ⟨S16x5120, .f32⟩
  | .local _ .vmem, ⟨1, _⟩ => ⟨S8x384, .f32⟩
  | .local _ .vmem, ⟨2, _⟩ => ⟨S8x5120, .f32⟩
  | .local _ .vmem, ⟨3, _⟩ => ⟨S320x5120, .i32⟩
  | _, _ => ⟨S5000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_51 : BitVec 32 := 0#32
  let c40_i32 : BitVec 32 := 40#32
  let v190 : BitVec 32 := Scalar.addi c0_i32_51 c40_i32
  let c1_i32_52 : BitVec 32 := 1#32
  ⟨c0_i32_51, v190, c1_i32_52⟩
def k0_off1 (k0_t1 : Fin k0_t1_loop.trips) : Fin 2 → Nat :=
  let c0_67 : Index := 0#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v217 : Index := Scalar.indexCast v216
  ![0, v217.toNat]
def k0_off2 (k0_t1 : Fin k0_t1_loop.trips) : Fin 2 → Nat :=
  let c1_68 : Index := 1#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v219 : Index := Scalar.indexCast v216
  ![1, v219.toNat]
def k0_off3 (k0_t1 : Fin k0_t1_loop.trips) : Fin 2 → Nat :=
  let c2_69 : Index := 2#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v221 : Index := Scalar.indexCast v216
  ![2, v221.toNat]
def k0_off4 (k0_t1 : Fin k0_t1_loop.trips) : Fin 2 → Nat :=
  let c3_70 : Index := 3#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v223 : Index := Scalar.indexCast v216
  ![3, v223.toNat]
def k0_off5 (k0_t1 : Fin k0_t1_loop.trips) : Fin 2 → Nat :=
  let c4_71 : Index := 4#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v225 : Index := Scalar.indexCast v216
  ![4, v225.toNat]
def k0_off6 (k0_t1 : Fin k0_t1_loop.trips) : Fin 2 → Nat :=
  let c5_72 : Index := 5#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v227 : Index := Scalar.indexCast v216
  ![5, v227.toNat]
def k0_off7 (k0_t1 : Fin k0_t1_loop.trips) : Fin 2 → Nat :=
  let c0_78 : Index := 0#32
  let c0_i32_51 : BitVec 32 := 0#32
  let c1_i32_52 : BitVec 32 := 1#32
  let arg4 : BitVec 32 := Scf.iv c0_i32_51 c1_i32_52 k0_t1
  let c128_i32 : BitVec 32 := 128#32
  let v216 : BitVec 32 := Scalar.muli arg4 c128_i32
  let v274 : Index := Scalar.indexCast v216
  ![0, v274.toNat]
@[reducible] def k0_t2_loop : Scf.Loop 32 :=
  let c0_i32_59 : BitVec 32 := 0#32
  let c40_i32_60 : BitVec 32 := 40#32
  let v203 : BitVec 32 := Scalar.addi c0_i32_59 c40_i32_60
  let c1_i32_61 : BitVec 32 := 1#32
  ⟨c0_i32_59, v203, c1_i32_61⟩
def k0_off8 (k0_t2 : Fin k0_t2_loop.trips) : Fin 2 → Nat :=
  let c6_67 : Index := 6#32
  let c0_i32_59 : BitVec 32 := 0#32
  let c1_i32_61 : BitVec 32 := 1#32
  let arg4 : BitVec 32 := Scf.iv c0_i32_59 c1_i32_61 k0_t2
  let c128_i32 : BitVec 32 := 128#32
  let v216 : BitVec 32 := Scalar.muli arg4 c128_i32
  let v217 : Index := Scalar.indexCast v216
  ![6, v217.toNat]
abbrev stage0_0 : Fin 1 → Memref sig .tc .vmem S16x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S5000x2 : Shape := ⟨2, ![5000, 2]⟩
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S300 : Shape := ⟨1, ![300]⟩
abbrev S300x1 : Shape := ⟨2, ![300, 1]⟩
abbrev S300x4 : Shape := ⟨2, ![300, 4]⟩

abbrev nBuf : Space → Nat
  | .hbm => 330
  | .vmem => 0
  | .smem => 0
  | _ => 0

abbrev hbmTy0_0 (i : Nat) : BufTy := match i % 128 with
  | 0 => ⟨S5000x2, .f32⟩
  | 1 => ⟨S5000x4, .f32⟩
  | 2 => ⟨S5000, .f32⟩
  | 3 => ⟨S5000x4, .f32⟩
  | 4 => ⟨S5000x1, .f32⟩
  | 5 => ⟨S5000, .f32⟩
  | 6 => ⟨S5000x1, .f32⟩
  | 7 => ⟨S5000, .f32⟩
  | 8 => ⟨S5000, .f32⟩
  | 9 => ⟨S5000x1, .f32⟩
  | 10 => ⟨S5000, .f32⟩
  | 11 => ⟨S5000x1, .f32⟩
  | 12 => ⟨S5000, .f32⟩
  | 13 => ⟨S5000, .f32⟩
  | 14 => ⟨S5000x1, .f32⟩
  | 15 => ⟨S5000, .f32⟩
  | 16 => ⟨S_, .f32⟩
  | 17 => ⟨S5000, .f32⟩
  | 18 => ⟨S5000, .f32⟩
  | 19 => ⟨S5000, .f32⟩
  | 20 => ⟨S5000x1, .f32⟩
  | 21 => ⟨S5000, .f32⟩
  | 22 => ⟨S_, .f32⟩
  | 23 => ⟨S5000, .f32⟩
  | 24 => ⟨S5000, .f32⟩
  | 25 => ⟨S5000, .f32⟩
  | 26 => ⟨S5000x1, .f32⟩
  | 27 => ⟨S5000, .f32⟩
  | 28 => ⟨S_, .f32⟩
  | 29 => ⟨S5000, .f32⟩
  | 30 => ⟨S5000, .f32⟩
  | 31 => ⟨S5000x1, .f32⟩
  | 32 => ⟨S5000, .f32⟩
  | 33 => ⟨S_, .f32⟩
  | 34 => ⟨S5000, .f32⟩
  | 35 => ⟨S5000, .f32⟩
  | 36 => ⟨S5000x1, .f32⟩
  | 37 => ⟨S5000, .f32⟩
  | 38 => ⟨S_, .f32⟩
  | 39 => ⟨S5000, .f32⟩
  | 40 => ⟨S5000, .f32⟩
  | 41 => ⟨S_, .f32⟩
  | 42 => ⟨S5000, .f32⟩
  | 43 => ⟨S5000, .f32⟩
  | 44 => ⟨S5000x1, .f32⟩
  | 45 => ⟨S5000, .f32⟩
  | 46 => ⟨S_, .f32⟩
  | 47 => ⟨S5000, .f32⟩
  | 48 => ⟨S5000, .f32⟩
  | 49 => ⟨S_, .f32⟩
  | 50 => ⟨S5000, .f32⟩
  | 51 => ⟨S5000, .f32⟩
  | 52 => ⟨S5000, .f32⟩
  | 53 => ⟨S5000, .f32⟩
  | 54 => ⟨S5000, .f32⟩
  | 55 => ⟨S5000, .f32⟩
  | 56 => ⟨S5000, .f32⟩
  | 57 => ⟨S5000, .f32⟩
  | 58 => ⟨S5000, .f32⟩
  | 59 => ⟨S5000, .f32⟩
  | 60 => ⟨S_, .f32⟩
  | 61 => ⟨S5000, .f32⟩
  | 62 => ⟨S5000, .f32⟩
  | 63 => ⟨S5000, .f32⟩
  | 64 => ⟨S_, .f32⟩
  | 65 => ⟨S5000, .f32⟩
  | 66 => ⟨S5000, .f32⟩
  | 67 => ⟨S5000, .f32⟩
  | 68 => ⟨S_, .f32⟩
  | 69 => ⟨S5000, .f32⟩
  | 70 => ⟨S5000, .f32⟩
  | 71 => ⟨S5000, .f32⟩
  | 72 => ⟨S_, .f32⟩
  | 73 => ⟨S5000, .f32⟩
  | 74 => ⟨S5000, .f32⟩
  | 75 => ⟨S5000, .f32⟩
  | 76 => ⟨S5000x1, .f32⟩
  | 77 => ⟨S5000x1, .f32⟩
  | 78 => ⟨S5000x1, .f32⟩
  | 79 => ⟨S5000x1, .f32⟩
  | 80 => ⟨S5000x4, .f32⟩
  | 81 => ⟨S5000x1, .f32⟩
  | 82 => ⟨S5000, .f32⟩
  | 83 => ⟨S_, .f32⟩
  | 84 => ⟨S_, .f32⟩
  | 85 => ⟨S_, .f32⟩
  | 86 => ⟨S5000, .f32⟩
  | 87 => ⟨S5000, .f32⟩
  | 88 => ⟨S_, .f32⟩
  | 89 => ⟨S5000, .f32⟩
  | 90 => ⟨S5000, .f32⟩
  | 91 => ⟨S5000x1, .f32⟩
  | 92 => ⟨S5000, .f32⟩
  | 93 => ⟨S_, .f32⟩
  | 94 => ⟨S_, .f32⟩
  | 95 => ⟨S_, .f32⟩
  | 96 => ⟨S5000, .f32⟩
  | 97 => ⟨S5000, .f32⟩
  | 98 => ⟨S_, .f32⟩
  | 99 => ⟨S5000, .f32⟩
  | 100 => ⟨S5000, .f32⟩
  | 101 => ⟨S5000x1, .f32⟩
  | 102 => ⟨S5000, .f32⟩
  | 103 => ⟨S_, .f32⟩
  | 104 => ⟨S_, .f32⟩
  | 105 => ⟨S_, .f32⟩
  | 106 => ⟨S5000, .f32⟩
  | 107 => ⟨S5000, .f32⟩
  | 108 => ⟨S_, .f32⟩
  | 109 => ⟨S5000, .f32⟩
  | 110 => ⟨S5000, .f32⟩
  | 111 => ⟨S5000x1, .f32⟩
  | 112 => ⟨S5000, .f32⟩
  | 113 => ⟨S_, .f32⟩
  | 114 => ⟨S_, .f32⟩
  | 115 => ⟨S_, .f32⟩
  | 116 => ⟨S5000, .f32⟩
  | 117 => ⟨S5000, .f32⟩
  | 118 => ⟨S_, .f32⟩
  | 119 => ⟨S5000, .f32⟩
  | 120 => ⟨S5000, .f32⟩
  | 121 => ⟨S5000x1, .f32⟩
  | 122 => ⟨S5000x1, .f32⟩
  | 123 => ⟨S5000x1, .f32⟩
  | 124 => ⟨S5000x1, .f32⟩
  | 125 => ⟨S5000x4, .f32⟩
  | 126 => ⟨S5000x1, .f32⟩
  | 127 => ⟨S5000, .f32⟩
  | _ => ⟨S5000x2, .f32⟩

abbrev hbmTy0_1 (i : Nat) : BufTy := match i % 128 with
  | 0 => ⟨S5000x1, .f32⟩
  | 1 => ⟨S5000, .f32⟩
  | 2 => ⟨S5000, .f32⟩
  | 3 => ⟨S5000x1, .f32⟩
  | 4 => ⟨S5000, .f32⟩
  | 5 => ⟨S5000x1, .f32⟩
  | 6 => ⟨S5000, .f32⟩
  | 7 => ⟨S5000, .f32⟩
  | 8 => ⟨S_, .f32⟩
  | 9 => ⟨S5000, .f32⟩
  | 10 => ⟨S5000, .i1⟩
  | 11 => ⟨S_, .f32⟩
  | 12 => ⟨S5000, .f32⟩
  | 13 => ⟨S5000, .i1⟩
  | 14 => ⟨S5000, .i1⟩
  | 15 => ⟨S_, .f32⟩
  | 16 => ⟨S5000, .f32⟩
  | 17 => ⟨S_, .f32⟩
  | 18 => ⟨S5000, .f32⟩
  | 19 => ⟨S5000, .f32⟩
  | 20 => ⟨S5000x1, .f32⟩
  | 21 => ⟨S5000x2, .f32⟩
  | 22 => ⟨S5000x2, .f32⟩
  | 23 => ⟨S5000x2, .f32⟩
  | 24 => ⟨S_, .f32⟩
  | 25 => ⟨S5000, .f32⟩
  | 26 => ⟨S5000x1, .f32⟩
  | 27 => ⟨S5000x2, .f32⟩
  | 28 => ⟨S5000x2, .f32⟩
  | 29 => ⟨S5000x1, .f32⟩
  | 30 => ⟨S5000, .f32⟩
  | 31 => ⟨S5000, .f32⟩
  | 32 => ⟨S5000, .f32⟩
  | 33 => ⟨S_, .f32⟩
  | 34 => ⟨S5000, .f32⟩
  | 35 => ⟨S5000, .f32⟩
  | 36 => ⟨S_, .f32⟩
  | 37 => ⟨S5000, .f32⟩
  | 38 => ⟨S5000, .f32⟩
  | 39 => ⟨S5000, .f32⟩
  | 40 => ⟨S_, .f32⟩
  | 41 => ⟨S5000, .f32⟩
  | 42 => ⟨S5000, .i1⟩
  | 43 => ⟨S5000, .i1⟩
  | 44 => ⟨S_, .f32⟩
  | 45 => ⟨S_, .f32⟩
  | 46 => ⟨S5000, .f32⟩
  | 47 => ⟨S5000, .f32⟩
  | 48 => ⟨S5000, .f32⟩
  | 49 => ⟨S5000, .i32⟩
  | 50 => ⟨S5000, .f32⟩
  | 51 => ⟨S5000, .i32⟩
  | 52 => ⟨S_, .i32⟩
  | 53 => ⟨S5000, .i32⟩
  | 54 => ⟨S5000, .i1⟩
  | 55 => ⟨S_, .i32⟩
  | 56 => ⟨S5000, .i32⟩
  | 57 => ⟨S5000, .i32⟩
  | 58 => ⟨S5000, .i32⟩
  | 59 => ⟨S5000x1, .i32⟩
  | 60 => ⟨S5000x4, .f32⟩
  | 61 => ⟨S5000x1, .f32⟩
  | 62 => ⟨S5000, .f32⟩
  | 63 => ⟨S5000x1, .f32⟩
  | 64 => ⟨S5000, .f32⟩
  | 65 => ⟨S5000, .f32⟩
  | 66 => ⟨S5000x1, .f32⟩
  | 67 => ⟨S5000, .f32⟩
  | 68 => ⟨S5000x1, .f32⟩
  | 69 => ⟨S5000, .f32⟩
  | 70 => ⟨S5000, .f32⟩
  | 71 => ⟨S5000, .f32⟩
  | 72 => ⟨S5000x2, .f32⟩
  | 73 => ⟨S5000x1x2, .f32⟩
  | 74 => ⟨S5000x2, .f32⟩
  | 75 => ⟨S1x5000x2, .f32⟩
  | 76 => ⟨S5000x5000x2, .f32⟩
  | 77 => ⟨S5000x5000x2, .f32⟩
  | 78 => ⟨S5000x5000x2, .f32⟩
  | 79 => ⟨S5000x2, .f32⟩
  | 80 => ⟨S5000x1x2, .f32⟩
  | 81 => ⟨S5000x2, .f32⟩
  | 82 => ⟨S1x5000x2, .f32⟩
  | 83 => ⟨S5000x5000x2, .f32⟩
  | 84 => ⟨S5000x5000x2, .f32⟩
  | 85 => ⟨S5000x5000x2, .f32⟩
  | 86 => ⟨S5000x5000x2, .f32⟩
  | 87 => ⟨S_, .f32⟩
  | 88 => ⟨S_, .f32⟩
  | 89 => ⟨S5000x5000x2, .f32⟩
  | 90 => ⟨S5000x5000x2, .f32⟩
  | 91 => ⟨S5000x5000x1, .f32⟩
  | 92 => ⟨S5000x5000, .f32⟩
  | 93 => ⟨S5000x5000x1, .f32⟩
  | 94 => ⟨S5000x5000, .f32⟩
  | 95 => ⟨S5000x5000, .f32⟩
  | 96 => ⟨S5000x1, .f32⟩
  | 97 => ⟨S1x5000, .f32⟩
  | 98 => ⟨S5000x5000, .f32⟩
  | 99 => ⟨S5000x5000, .f32⟩
  | 100 => ⟨S5000x5000, .f32⟩
  | 101 => ⟨S5000x5000, .f32⟩
  | 102 => ⟨S_, .f32⟩
  | 103 => ⟨S5000x5000, .f32⟩
  | 104 => ⟨S5000x5000, .f32⟩
  | 105 => ⟨S5000x5000, .f32⟩
  | 106 => ⟨S5000, .i32⟩
  | 107 => ⟨S_, .i32⟩
  | 108 => ⟨S5000, .i32⟩
  | 109 => ⟨S5000, .i1⟩
  | 110 => ⟨S_, .i32⟩
  | 111 => ⟨S5000, .i32⟩
  | 112 => ⟨S5000, .i32⟩
  | 113 => ⟨S5000, .i32⟩
  | 114 => ⟨S5000x1, .i32⟩
  | 115 => ⟨S5000, .i1⟩
  | 116 => ⟨S_, .i32⟩
  | 117 => ⟨S_, .i32⟩
  | 118 => ⟨S5000x5000, .f32⟩
  | 119 => ⟨S5000, .i32⟩
  | 120 => ⟨S_, .i32⟩
  | 121 => ⟨S_, .i32⟩
  | 122 => ⟨S5000, .i1⟩
  | 123 => ⟨S_, .i32⟩
  | 124 => ⟨S_, .i1⟩
  | 125 => ⟨S_, .i32⟩
  | 126 => ⟨S_, .i32⟩
  | 127 => ⟨S_, .i32⟩
  | _ => ⟨S5000x2, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1x5000, .f32⟩
  | 14 => ⟨S5000, .f32⟩
  | 15 => ⟨S_, .f32⟩
  | 16 => ⟨S5000, .f32⟩
  | 17 => ⟨S5000, .i1⟩
  | 18 => ⟨S_, .i32⟩
  | 19 => ⟨S5000, .i32⟩
  | 20 => ⟨S5000, .i1⟩
  | 21 => ⟨S5000, .i1⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S1, .i1⟩
  | 29 => ⟨S_, .i1⟩
  | 30 => ⟨S5000, .i1⟩
  | 31 => ⟨S5000, .i1⟩
  | 32 => ⟨S5000, .i1⟩
  | 33 => ⟨S5000, .i1⟩
  | 34 => ⟨S_, .i32⟩
  | 35 => ⟨S_, .i32⟩
  | 36 => ⟨S_, .i1⟩
  | 37 => ⟨S5000, .i1⟩
  | 38 => ⟨S_, .i32⟩
  | 39 => ⟨S5000, .i32⟩
  | 40 => ⟨S5000, .i1⟩
  | 41 => ⟨S_, .i32⟩
  | 42 => ⟨S5000, .i32⟩
  | 43 => ⟨S5000, .i32⟩
  | 44 => ⟨S5000, .i32⟩
  | 45 => ⟨S5000x1, .i32⟩
  | 46 => ⟨S5000, .i1⟩
  | 47 => ⟨S5000, .i1⟩
  | 48 => ⟨S_, .f32⟩
  | 49 => ⟨S_, .f32⟩
  | 50 => ⟨S5000, .f32⟩
  | 51 => ⟨S5000, .f32⟩
  | 52 => ⟨S300, .f32⟩
  | 53 => ⟨S300, .i32⟩
  | 54 => ⟨S_, .i32⟩
  | 55 => ⟨S300, .i32⟩
  | 56 => ⟨S300, .i1⟩
  | 57 => ⟨S_, .i32⟩
  | 58 => ⟨S300, .i32⟩
  | 59 => ⟨S300, .i32⟩
  | 60 => ⟨S300, .i32⟩
  | 61 => ⟨S300x1, .i32⟩
  | 62 => ⟨S300x4, .f32⟩
  | 63 => ⟨S_, .i32⟩
  | 64 => ⟨S300, .i32⟩
  | 65 => ⟨S300, .i1⟩
  | 66 => ⟨S_, .i32⟩
  | 67 => ⟨S300, .i32⟩
  | 68 => ⟨S300, .i32⟩
  | 69 => ⟨S300, .i32⟩
  | 70 => ⟨S300x1, .i32⟩
  | 71 => ⟨S300, .f32⟩
  | 72 => ⟨S_, .i32⟩
  | 73 => ⟨S300, .i32⟩
  | _ => ⟨S5000x2, .f32⟩

abbrev hbmTy (i : Nat) : BufTy := match i / 128 with
  | 0 => hbmTy0_0 i
  | 1 => hbmTy0_1 i
  | 2 => hbmTy0_2 i
  | _ => ⟨S5000x2, .f32⟩

abbrev bufTy : (tb : Table) → Fin (tcTables nBuf tb) → BufTy
  | .hbm, ⟨i, _⟩ => hbmTy i
  | _, _ => ⟨S5000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_cst_12 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_cst_14 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_cst_16 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_cst_18 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_cst_20 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_21 : Ref sig .tc := ⟨.hbm, 143, rfl⟩
abbrev main_v97 : Ref sig .tc := ⟨.hbm, 144, rfl⟩
abbrev main_cst_22 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_23 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_24 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_26 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_27 : Ref sig .tc := ⟨.hbm, 172, rfl⟩
abbrev main_call4_v0 : Ref sig .tc := ⟨.hbm, 173, rfl⟩
abbrev main_call4_v1 : Ref sig .tc := ⟨.hbm, 174, rfl⟩
abbrev main_v120 : Ref sig .tc := ⟨.hbm, 175, rfl⟩
abbrev main_v121 : Ref sig .tc := ⟨.hbm, 176, rfl⟩
abbrev main_call5_v0 : Ref sig .tc := ⟨.hbm, 177, rfl⟩
abbrev main_call5_v1_0 : Ref sig .tc := ⟨.hbm, 178, rfl⟩
abbrev main_v122 : Ref sig .tc := ⟨.hbm, 179, rfl⟩
abbrev main_c : Ref sig .tc := ⟨.hbm, 180, rfl⟩
abbrev main_v123 : Ref sig .tc := ⟨.hbm, 181, rfl⟩
abbrev main_v124 : Ref sig .tc := ⟨.hbm, 182, rfl⟩
abbrev main_c_28 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_29 : Ref sig .tc := ⟨.hbm, 215, rfl⟩
abbrev main_call6_v0 : Ref sig .tc := ⟨.hbm, 216, rfl⟩
abbrev main_call6_v1 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_30 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_c_31 : Ref sig .tc := ⟨.hbm, 235, rfl⟩
abbrev main_v172 : Ref sig .tc := ⟨.hbm, 236, rfl⟩
abbrev main_v173 : Ref sig .tc := ⟨.hbm, 237, rfl⟩
abbrev main_c_32 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_c_33 : Ref sig .tc := ⟨.hbm, 244, rfl⟩
abbrev main_c_34 : Ref sig .tc := ⟨.hbm, 245, rfl⟩
abbrev main_v179_0 : Ref sig .tc := ⟨.hbm, 246, rfl⟩
abbrev main_v179_1 : Ref sig .tc := ⟨.hbm, 247, rfl⟩
abbrev main_v179_2 : Ref sig .tc := ⟨.hbm, 248, rfl⟩
abbrev main_v179_3 : Ref sig .tc := ⟨.hbm, 249, rfl⟩
abbrev main_v179_4 : Ref sig .tc := ⟨.hbm, 250, rfl⟩
abbrev main_while0c_c_48 : Ref sig .tc := ⟨.hbm, 251, rfl⟩
abbrev main_while0c_v205 : Ref sig .tc := ⟨.hbm, 252, rfl⟩
abbrev main_while0b_c_48 : Ref sig .tc := ⟨.hbm, 253, rfl⟩
abbrev main_while0b_v205 : Ref sig .tc := ⟨.hbm, 254, rfl⟩
abbrev main_while0b_v206 : Ref sig .tc := ⟨.hbm, 255, rfl⟩
abbrev main_while0b_c_49 : Ref sig .tc := ⟨.hbm, 256, rfl⟩
abbrev main_while0b_v207 : Ref sig .tc := ⟨.hbm, 257, rfl⟩
abbrev main_while0b_c_50 : Ref sig .tc := ⟨.hbm, 258, rfl⟩
abbrev main_while0b_v208 : Ref sig .tc := ⟨.hbm, 259, rfl⟩
abbrev main_while0b_v209 : Ref sig .tc := ⟨.hbm, 260, rfl⟩
abbrev main_while0b_c_51 : Ref sig .tc := ⟨.hbm, 261, rfl⟩
abbrev main_while0b_c_52 : Ref sig .tc := ⟨.hbm, 262, rfl⟩
abbrev main_while0b_v210 : Ref sig .tc := ⟨.hbm, 263, rfl⟩
abbrev main_while0b_c_53 : Ref sig .tc := ⟨.hbm, 264, rfl⟩
abbrev main_while0b_c_54 : Ref sig .tc := ⟨.hbm, 265, rfl⟩
abbrev main_while0b_v211 : Ref sig .tc := ⟨.hbm, 266, rfl⟩
abbrev main_while0b_c_55 : Ref sig .tc := ⟨.hbm, 267, rfl⟩
abbrev main_while0b_v212 : Ref sig .tc := ⟨.hbm, 268, rfl⟩
abbrev main_while0b_v213 : Ref sig .tc := ⟨.hbm, 269, rfl⟩
abbrev main_while0b_v214 : Ref sig .tc := ⟨.hbm, 270, rfl⟩
abbrev main_while0b_cst_56 : Ref sig .tc := ⟨.hbm, 271, rfl⟩
abbrev main_while0b_v215 : Ref sig .tc := ⟨.hbm, 272, rfl⟩
abbrev main_while0b_v216 : Ref sig .tc := ⟨.hbm, 273, rfl⟩
abbrev main_while0b_v217 : Ref sig .tc := ⟨.hbm, 274, rfl⟩
abbrev main_while0b_v218 : Ref sig .tc := ⟨.hbm, 275, rfl⟩
abbrev main_while0b_v219 : Ref sig .tc := ⟨.hbm, 276, rfl⟩
abbrev main_while0b_v220 : Ref sig .tc := ⟨.hbm, 277, rfl⟩
abbrev main_while0b_c_57 : Ref sig .tc := ⟨.hbm, 278, rfl⟩
abbrev main_while0b_v221 : Ref sig .tc := ⟨.hbm, 279, rfl⟩
abbrev main_while0b_v222 : Ref sig .tc := ⟨.hbm, 280, rfl⟩
abbrev main_while0b_c_58 : Ref sig .tc := ⟨.hbm, 281, rfl⟩
abbrev main_while0b_v223 : Ref sig .tc := ⟨.hbm, 282, rfl⟩
abbrev main_while0b_v224 : Ref sig .tc := ⟨.hbm, 283, rfl⟩
abbrev main_while0b_v225 : Ref sig .tc := ⟨.hbm, 284, rfl⟩
abbrev main_while0b_v226 : Ref sig .tc := ⟨.hbm, 285, rfl⟩
abbrev main_while0b_v227 : Ref sig .tc := ⟨.hbm, 286, rfl⟩
abbrev main_while0b_v228 : Ref sig .tc := ⟨.hbm, 287, rfl⟩
abbrev main_while0b_v229 : Ref sig .tc := ⟨.hbm, 288, rfl⟩
abbrev main_while0b_v230 : Ref sig .tc := ⟨.hbm, 289, rfl⟩
abbrev main_while0b_c_59 : Ref sig .tc := ⟨.hbm, 290, rfl⟩
abbrev main_while0b_v231 : Ref sig .tc := ⟨.hbm, 291, rfl⟩
abbrev main_c_35 : Ref sig .tc := ⟨.hbm, 292, rfl⟩
abbrev main_v180 : Ref sig .tc := ⟨.hbm, 293, rfl⟩
abbrev main_c_36 : Ref sig .tc := ⟨.hbm, 294, rfl⟩
abbrev main_v181 : Ref sig .tc := ⟨.hbm, 295, rfl⟩
abbrev main_v182 : Ref sig .tc := ⟨.hbm, 296, rfl⟩
abbrev main_c_37 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_cst_38 : Ref sig .tc := ⟨.hbm, 304, rfl⟩
abbrev main_call7_v0 : Ref sig .tc := ⟨.hbm, 305, rfl⟩
abbrev main_call7_v1 : Ref sig .tc := ⟨.hbm, 306, rfl⟩
abbrev main_v189 : Ref sig .tc := ⟨.hbm, 307, rfl⟩
abbrev main_values : Ref sig .tc := ⟨.hbm, 308, rfl⟩
abbrev main_indices : Ref sig .tc := ⟨.hbm, 309, rfl⟩
abbrev main_c_39 : Ref sig .tc := ⟨.hbm, 310, rfl⟩
abbrev main_v190 : Ref sig .tc := ⟨.hbm, 311, rfl⟩
abbrev main_v191 : Ref sig .tc := ⟨.hbm, 312, rfl⟩
abbrev main_c_40 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_c_41 : Ref sig .tc := ⟨.hbm, 319, rfl⟩
abbrev main_v197 : Ref sig .tc := ⟨.hbm, 320, rfl⟩
abbrev main_v198 : Ref sig .tc := ⟨.hbm, 321, rfl⟩
abbrev main_c_42 : Ref sig .tc := ⟨.hbm, 322, rfl⟩
abbrev main_v199 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_c_43 : Ref sig .tc := ⟨.hbm, 328, rfl⟩
abbrev main_v204 : Ref sig .tc := ⟨.hbm, 329, rfl⟩

abbrev nD : Nat := 1
abbrev τ : Topo := Topo.v7x

variable {F : FTy → Type} [FloatOps F]

abbrev main_while0_count : Scf.Loop 32 := ⟨0#32, 5000#32, 1#32⟩
-- ==== Proof.RefFrame.lean ====
module

public import proofs.«01_k».proof.Proof.Gen.ReferenceIdeal.Run
public import Idealize.ShloMosaic.Lib.Quiescent
public import Idealize.ShloMosaic.PureOps.Ideal

@[expose] public section

set_option maxRecDepth 16384

noncomputable section

namespace Cert.ReferenceIdeal.Own

open Idealize.ShloMosaic Idealize.ShloMosaic.TcCoe Idealize.ShloMosaic.StableHlo
open Idealize.SL.Sem Cert.ReferenceIdeal Cert.ReferenceIdeal.Gen Cert.ReferenceIdeal.Value

variable {F : FTy → Type} [FloatOps F]

/-- The contents at the loop's entry of a buffer that no stretch before the loop writes. -/
theorem pre_keep (V : Valuation τ sig (Elt F)) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) (h9 : r ∉ hostOps0_9_W)
    (h10 : r ∉ hostOps0_10_W) (h11 : r ∉ hostOps0_11_W) (h12 : r ∉ hostOps0_12_W) (h13 : r ∉ hostOps0_13_W)
    (h14 : r ∉ hostOps0_14_W) :
    afterL preI V (Proc.devRef .tc r) = V (Proc.devRef .tc r) := by
  simp only [afterL_cons, afterL_nil]
  rw [after_of_writes_sub hostOps0_14 _ hostOps0_14_writes h14, after_of_writes_sub hostOps0_13 _ hostOps0_13_writes h13,
    after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A trip keeps a buffer that neither the condition nor the body writes. -/
theorem trips_keep (W₀ : Dev nD → Valuation τ sig (Elt F)) (c : Dev nD) (r : Ref sig .tc) (hc : r ∉ condOps_W) (hb : r ∉ while0Ops0_W) :
    ∀ n, atTrip condOps bodyI W₀ n c (Proc.devRef .tc r) = W₀ c (Proc.devRef .tc r)
  | 0 => rfl
  | n + 1 => by
    rw [atTrip_succ, afterL_cons, afterL_nil, after_of_writes_sub while0Ops0 _ while0Ops0_writes hb,
      after_of_writes_sub condOps _ condOps_writes hc, trips_keep W₀ c r hc hb n]

/-- What the stretch writes, in order. -/
abbrev hostOps0_15_W : List (Ref sig .tc) := [main_c_35, main_v180, main_c_36, main_v181, main_v182, main_c_37, main_v183, main_v184, main_v185, main_v186, main_v187, main_v188, main_cst_38]
/-- The stretch writes those references alone. -/
theorem hostOps0_15_writes : (hostOps0_15 : List (HloOp τ sig (Elt F))).Forall fun op => op.writes ⊆ (hostOps0_15_W.map (Proc.devRef (τ := τ) .tc)).toFinset :=
  StableHlo.forall_writes_sub_of_map rfl
/-- What the stretch writes, in order. -/
abbrev hostOps0_16_W : List (Ref sig .tc) := [main_call7_v0, main_call7_v1, main_v189]
/-- The stretch writes those references alone. -/
theorem hostOps0_16_writes : (hostOps0_16 : List (HloOp τ sig (Elt F))).Forall fun op => op.writes ⊆ (hostOps0_16_W.map (Proc.devRef (τ := τ) .tc)).toFinset :=
  StableHlo.forall_writes_sub_of_map rfl
/-- What the stretch writes, in order. -/
abbrev hostOps0_17_W : List (Ref sig .tc) := [main_values, main_indices, main_c_39, main_v190, main_v191, main_c_40, main_v192, main_v193, main_v194, main_v195, main_v196, main_c_41, main_v197, main_v198, main_c_42, main_v199, main_v200, main_v201, main_v202, main_v203, main_c_43, main_v204]
/-- The stretch writes those references alone. -/
theorem hostOps0_17_writes : (hostOps0_17 : List (HloOp τ sig (Elt F))).Forall fun op => op.writes ⊆ (hostOps0_17_W.map (Proc.devRef (τ := τ) .tc)).toFinset :=
  StableHlo.forall_writes_sub_of_map rfl

/-- The stretches after the loop keep a buffer that none of them writes. -/
theorem post_keep (V : Valuation τ sig (Elt F)) (r : Ref sig .tc)
    (h15 : r ∉ hostOps0_15_W) (h16 : r ∉ hostOps0_16_W) (h17 : r ∉ hostOps0_17_W) :
    afterL postI V (Proc.devRef .tc r) = V (Proc.devRef .tc r) := by
  simp only [afterL_cons, afterL_nil]
  rw [after_of_writes_sub hostOps0_17 _ hostOps0_17_writes h17, after_of_writes_sub hostOps0_16 _ hostOps0_16_writes h16,
    after_of_writes_sub hostOps0_15 _ hostOps0_15_writes h15]

variable (m : (ℓ : Loc nD τ sig) → Buf (Elt F) ℓ)

/-- The reference ends with its first argument unchanged. -/
theorem final_arg0 (c : Dev nD) : finalContents condOps preI bodyI postI 5000 m c (Proc.devRef .tc main_arg0) = m ((c.tc : Thread nD τ).loc main_arg0) := by
  show afterL postI (after condOps (atTrip condOps bodyI (fun c => afterL preI (launchContents m c)) 5000 c)) _ = _
  rw [post_keep, after_of_writes_sub condOps _ condOps_writes, trips_keep, pre_keep] <;> first | rfl | decide
/-- The reference ends with its second argument unchanged. -/
theorem final_arg1 (c : Dev nD) : finalContents condOps preI bodyI postI 5000 m c (Proc.devRef .tc main_arg1) = m ((c.tc : Thread nD τ).loc main_arg1) := by
  show afterL postI (after condOps (atTrip condOps bodyI (fun c => afterL preI (launchContents m c)) 5000 c)) _ = _
  rw [post_keep, after_of_writes_sub condOps _ condOps_writes, trips_keep, pre_keep] <;> first | rfl | decide
/-- The reference ends with its third argument unchanged. -/
theorem final_arg2 (c : Dev nD) : finalContents condOps preI bodyI postI 5000 m c (Proc.devRef .tc main_arg2) = m ((c.tc : Thread nD τ).loc main_arg2) := by
  show afterL postI (after condOps (atTrip condOps bodyI (fun c => afterL preI (launchContents m c)) 5000 c)) _ = _
  rw [post_keep, after_of_writes_sub condOps _ condOps_writes, trips_keep, pre_keep] <;> first | rfl | decide
/-- The reference ends with its fourth argument unchanged. -/
theorem final_arg3 (c : Dev nD) : finalContents condOps preI bodyI postI 5000 m c (Proc.devRef .tc main_arg3) = m ((c.tc : Thread nD τ).loc main_arg3) := by
  show afterL postI (after condOps (atTrip condOps bodyI (fun c => afterL preI (launchContents m c)) 5000 c)) _ = _
  rw [post_keep, after_of_writes_sub condOps _ condOps_writes, trips_keep, pre_keep] <;> first | rfl | decide

/-- The reference runs to its end, leaves its arguments as they were, and every counter at zero. -/
theorem frame (ρ : Dev nD → PrngReg) : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run _ _ _).mono ?_ (run_fold m ρ)
  intro r h
  exact ⟨fun c => ⟨(h c main_arg0 rfl).trans (final_arg0 m c), (h c main_arg1 rfl).trans (final_arg1 m c),
    (h c main_arg2 rfl).trans (final_arg2 m c), (h c main_arg3 rfl).trans (final_arg3 m c)⟩, sem_eq_zero_of_no_sems (by decide) _⟩

end Cert.ReferenceIdeal.Own

end
-- ==== Proof.KWhile.lean ====
module
public import proofs.«01_k».proof.Proof.Gen.KernelIdeal.Loops
public import proofs.«01_k».proof.Proof.Gen.KernelIdeal.Points

/-!
# The kernel's fixpoint loop, as a recursion with a bound on its trips

The `scf.while` carries a flag and a row of keep marks. One trip reads the whole table of words, forms the next row and
sets the flag when the row changed. `run` is that recursion with a number of trips it may take, and `spec_le` says the
loop's label returns what `run` returns, when `run` comes to rest within its trips.
-/

@[expose] public section
set_option maxRecDepth 65536
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄" => MT nD τ sig Unit (Elt F) ℕ (UR sig nD τ) ℕ

/-- The table of words, read whole. -/
abbrev tableOf (arg3 : Memref sig .tc .vmem S320x5120 .i32) (W : BufTy.Contents (Elt F) arg3.view.ty) : Vec F S320x5120 .i32 :=
  arg3.view.readAt (Elt F) (Rect.unit (s := S320x5120) ![0, 0] S320x5120.size inb_S320x5120_S320x5120_0_0).toLoadRect W

/-- Whether the row changed in one trip from `k`. -/
def flag (q : FVec F S5120x320 .f32) (v : FVec F S1x5120 .f32) (M : Vec F S320x5120 .i32) (k : FVec F S1x5120 .f32) : BitVec 1 :=
  Scalar.cmpf .ogt (k0_pay3 q v k M) (Scalar.ofBits .f32 0x00000000#32)

/-- The loop with at most `n` trips, from the flag `b` and the row `k`. -/
def run (q : FVec F S5120x320 .f32) (v : FVec F S1x5120 .f32) (M : Vec F S320x5120 .i32) :
    ℕ → BitVec 1 → FVec F S1x5120 .f32 → BitVec 1 × FVec F S1x5120 .f32
  | 0, b, k => (b, k)
  | n + 1, b, k => if b = 1#1 then run q v M n (flag q v M k) (k0_pay2 q v k M) else (b, k)

/-- The specification of the loop's label with `n` trips: holding the table, return what `run` returns, the table as it was. -/
def spec (c : Dev nD) (q : FVec F S5120x320 .f32) (v : FVec F S1x5120 .f32) (arg3 : Memref sig .tc .vmem S320x5120 .i32)
    (W : BufTy.Contents (Elt F) arg3.view.ty) (n : ℕ) (b : BitVec 1) (k : FVec F S1x5120 .f32) :
    sWPT 𝕄 (BitVec 1 × FVec F S1x5120 .f32) := do
  sWPT.consume (iprop(arg3.view.loc (c : Thread nD τ) ↦[arg3.view.set]{fullShare} W))
  sWPT.produce (iprop(arg3.view.loc (c : Thread nD τ) ↦[arg3.view.set]{fullShare} W))
  pure (run q v (tableOf arg3 W) n b k)

/-- The specification spelled out. -/
theorem spec_apply (c : Dev nD) (q : FVec F S5120x320 .f32) (v : FVec F S1x5120 .f32) (arg3 : Memref sig .tc .vmem S320x5120 .i32)
    (W : BufTy.Contents (Elt F) arg3.view.ty) (n : ℕ) (b : BitVec 1) (k : FVec F S1x5120 .f32)
    (K : BitVec 1 × FVec F S1x5120 .f32 → sProp 𝕄) :
    spec c q v arg3 W n b k K
      = iprop((arg3.view.loc (c : Thread nD τ) ↦[arg3.view.set]{fullShare} W)
          ∗ ((arg3.view.loc (c : Thread nD τ) ↦[arg3.view.set]{fullShare} W) -∗ K (run q v (tableOf arg3 W) n b k))) := rfl

/-- The loop's label meets its specification whenever the recursion comes to rest within its trips. -/
theorem spec_le (c : Dev nD) (E : Set ℕ) (q : FVec F S5120x320 .f32) (v : FVec F S1x5120 .f32)
    (arg3 : Memref sig .tc .vmem S320x5120 .i32) (harg3 : arg3.IsWhole) (W : BufTy.Contents (Elt F) arg3.view.ty) :
    ∀ n b k, (run q v (tableOf arg3 W) n b k).1 ≠ 1#1 → ∀ K, spec c q v arg3 W n b k K
      ⊢ wp frame (wpE (defs₀ (F := F)) Variants.nat (c : Thread nD τ) (some n)) E
          (defs₀ (F := F) .tc 1 ⟨q, arg3, harg3, v, b, k⟩) K := by
  intro n
  induction n with
  | zero =>
    intro b k hr K
    rw [spec_apply]
    show _ ⊢ wp frame (wpE (defs₀ (F := F)) Variants.nat (c : Thread nD τ) (some 0)) E (cc0_while1 q arg3 harg3 v b k) K
    have hb : ¬ b = 1#1 := hr
    have hrun : run q v (tableOf arg3 W) 0 b k = (b, k) := rfl
    rw [hrun]
    unfold cc0_while1
    simp only [hb, ↓reduceIte, Prog.pure_eq_ret]
    iintro ⟨H, Hk⟩
    rw [wp_ret]; imodintro
    iapply Hk $$ H
  | succ n ih =>
    intro b k hr K
    rw [spec_apply]
    show _ ⊢ wp frame (wpE (defs₀ (F := F)) Variants.nat (c : Thread nD τ) (some (n + 1))) E (cc0_while1 q arg3 harg3 v b k) K
    by_cases hb : b = 1#1
    · simp only [cc0_while1_eq_skeleton]; unfold cc0_while1_skel
      have hrun : run q v (tableOf arg3 W) (n + 1) b k
          = run q v (tableOf arg3 W) n (flag q v (tableOf arg3 W) k) (k0_pay2 q v k (tableOf arg3 W)) := by
        rw [run, if_pos hb]
      rw [hrun] at hr ⊢
      simp only [hb, ↓reduceIte, Prog.lift, Prog.bind_op, Prog.bind_ret, Prog.pure_eq_ret]
      iintro ⟨H, Hk⟩
      iapply (wp_load Variants.nat (c : Thread nD τ) (some (n + 1)) E (m := arg3) (View.setOn_subset_set _ _)) $$ H
      iintro H
      iapply (wp_call_spec Variants.nat (c : Thread nD τ) (some (n + 1)) E
        (spec c q v arg3 W n (flag q v (tableOf arg3 W) k) (k0_pay2 q v k (tableOf arg3 W))) n
        (fun u hu => by cases hu; exact Nat.lt_succ_self n) (ih _ _ hr))
      rw [spec_apply]
      isplitl [H]
      · iexact H
      · iintro H
        rw [wp_ret]; imodintro
        iapply Hk $$ H
    · have hrun : run q v (tableOf arg3 W) (n + 1) b k = (b, k) := by rw [run, if_neg hb]
      rw [hrun]
      unfold cc0_while1
      simp only [hb, ↓reduceIte, Prog.pure_eq_ret]
      iintro ⟨H, Hk⟩
      rw [wp_ret]; imodintro
      iapply Hk $$ H

end Cert.KernelIdeal.Own
end
-- ==== Proof.KChain.lean ====
module
public import proofs.«01_k».proof.Proof.KWhile
public import Idealize.ShloMosaic.Lib.Pointwise

/-!
# The values of the kernel's body

The body's rows and columns as functions of the block `x` it loads (sixteen rows of 5120 lanes), the table of words, the
ranks and the stored result.
-/

@[expose] public section
set_option maxRecDepth 65536
noncomputable section
namespace Cert.KernelIdeal.Own
open Idealize.ShloMosaic Idealize.ShloMosaic.TcCoe
open Cert.KernelIdeal Cert.KernelIdeal.Gen
variable {F : FTy → Type} [FloatOps F]

section
variable (x : Vec F S16x5120 .f32)
/-- The left edges of the clipped boxes. -/
def rX1 : FVec F S1x5120 .f32 := k0_pay22 (k0_pay20 x) (k0_pay21 (F := F))
/-- The top edges. -/
def rY1 : FVec F S1x5120 .f32 := k0_pay23 (k0_pay17 x) (k0_pay19 x)
/-- The right edges. -/
def rX2 : FVec F S1x5120 .f32 := k0_pay24 (k0_pay16 x) (k0_pay18 x)
/-- The bottom edges. -/
def rY2 : FVec F S1x5120 .f32 := k0_pay25 (k0_pay17 x) (k0_pay19 x)
/-- The widths. -/
def rW : FVec F S1x5120 .f32 := k0_pay26 (k0_pay16 x) (k0_pay18 x) (k0_pay20 x) (k0_pay21 (F := F))
/-- The heights. -/
def rH : FVec F S1x5120 .f32 := k0_pay27 (k0_pay17 x) (k0_pay19 x)
/-- The class probabilities. -/
def rRaw : FVec F S1x5120 .f32 := k0_pay28 (k0_pay11 x) (k0_pay12 x)
/-- The scores. -/
def rSc : FVec F S1x5120 .f32 := k0_pay29 (k0_pay11 x) (k0_pay12 x) (k0_pay13 x)
/-- Whether a box is large enough. -/
def rBig : IVec S1x5120 1 := k0_pay30 (k0_pay16 x) (k0_pay17 x) (k0_pay18 x) (k0_pay19 x) (k0_pay20 x) (k0_pay21 (F := F))
/-- The lanes' numbers. -/
def rIdx : IVec S1x5120 32 := iota .tc S1x5120 32 [1] iota_S1x5120_d1_w32
/-- The threshold on the class probability. -/
def thr : F .f32 := Scalar.ofBits .f32 0x3D4CCCCD#32
/-- Which boxes are valid. -/
def rValid : IVec S1x5120 1 := k0_pay31 (rRaw x) rIdx (rBig x) thr
/-- The scores, −1 where the box is not valid. -/
def rSm : FVec F S1x5120 .f32 := k0_pay32 (rRaw x) (rSc x) rIdx (rBig x) thr
/-- The areas. -/
def rArea : FVec F S1x5120 .f32 := k0_pay33 (rW x) (rH x)
/-- The left edges as a column. -/
def cX1 : FVec F S5120x1 .f32 := k0_pay36 (rX1 x) (rY1 x) (rX2 x) (rY2 x) (rW x) (rH x) (rRaw x) (rSc x) rIdx (rBig x) thr
/-- The top edges as a column. -/
def cY1 : FVec F S5120x1 .f32 := k0_pay37 (rX1 x) (rY1 x) (rX2 x) (rY2 x) (rW x) (rH x) (rRaw x) (rSc x) rIdx (rBig x) thr
/-- The right edges as a column. -/
def cX2 : FVec F S5120x1 .f32 := k0_pay38 (rX1 x) (rY1 x) (rX2 x) (rY2 x) (rW x) (rH x) (rRaw x) (rSc x) rIdx (rBig x) thr
/-- The bottom edges as a column. -/
def cY2 : FVec F S5120x1 .f32 := k0_pay39 (rX1 x) (rY1 x) (rX2 x) (rY2 x) (rW x) (rH x) (rRaw x) (rSc x) rIdx (rBig x) thr
/-- The areas as a column. -/
def cArea : FVec F S5120x1 .f32 := k0_pay40 (rX1 x) (rY1 x) (rX2 x) (rY2 x) (rW x) (rH x) (rRaw x) (rSc x) rIdx (rBig x) thr
/-- The masked scores as a column. -/
def cSm : FVec F S5120x1 .f32 := k0_pay41 (rX1 x) (rY1 x) (rX2 x) (rY2 x) (rW x) (rH x) (rRaw x) (rSc x) rIdx (rBig x) thr
/-- The scores as a column. -/
def cSc : FVec F S5120x1 .f32 := k0_pay42 (rX1 x) (rY1 x) (rX2 x) (rY2 x) (rW x) (rH x) (rRaw x) (rSc x) rIdx (rBig x) thr
/-- The column of row numbers. -/
def cIdx : IVec S5120x1 32 := iota .tc S5120x1 32 [0] iota_S5120x1_d0_w32
/-- The lane numbers of a tile. -/
def tIdx : IVec S1x128 32 := iota .tc S1x128 32 [1] iota_S1x128_d1_w32
/-- Half the areas and half the tolerance, as a column. -/
def cHalf : FVec F S5120x1 .f32 := k0_pay49 (cArea x)
/-- The powers of two that pack sixteen marks in a word. -/
def qpow : FVec F S5120x320 .f32 := k0_pay54 k0_pay50 k0_pay51 16#32 k0_pay52 k0_pay53
/-- The lanes of tile `k` of a row. -/
def lanes (v : FVec F S1x5120 .f32) (k : ℕ) : FVec F S1x128 .f32 :=
  fun j => v (ix2 0 ⟨(128 * k + (j 1).val) % 5120, Nat.mod_lt _ (by norm_num)⟩)
/-- The words of tile `k`. -/
def tile (k : Fin k0_t1_loop.trips) : Vec F S320x128 .i32 :=
  k0_pay55 (F := F) cIdx k0_pay50 k0_pay51 16#32 k0_pay52 k0_pay53 (k0_pay4 tIdx 0#32 1#32 k)
    (k0_pay5 (cX1 x) (cY1 x) (cX2 x) (cY2 x) (cHalf x) (lanes (rX1 x) k) (lanes (rY1 x) k) (lanes (rX2 x) k)
      (lanes (rY2 x) k) (lanes (rArea x) k))
    (k0_pay6 (cSm x) (lanes (rSm x) k)) (k0_pay7 (cSm x) (lanes (rSm x) k))
/-- Lane `l`'s tile. -/
def tileNo (l : Fin 5120) : Fin k0_t1_loop.trips :=
  ⟨l.val / 128, by have h := l.isLt; have : k0_t1_loop.trips = 40 := by decide +kernel
                   omega⟩
/-- The table of words. -/
def table : Vec F S320x5120 .i32 :=
  fun j => tile x (tileNo (j 1)) (ix2 (j 0) ⟨(j 1).val % 128, Nat.mod_lt _ (by norm_num)⟩)
/-- The marks of the valid boxes. -/
def rMark : FVec F S1x5120 .f32 := k0_pay56 (rValid x)
/-- The trips the fixpoint loop is allowed. -/
@[irreducible] def fuel : ℕ := 5200
/-- The fixpoint loop's result. -/
def kept : BitVec 1 × FVec F S1x5120 .f32 := run qpow (rMark x) (table x) fuel 1#1 (rMark x)
/-- The final scores: −1 where the box is not kept. -/
def rFin : FVec F S1x5120 .f32 := k0_pay57 (rSc x) (kept x).2
/-- The ranks counted over the first `k` tiles. -/
def ranks : ℕ → FVec F S5120x1 .f32
  | 0 => k0_pay59 (F := F)
  | k + 1 => if h : k < k0_t2_loop.trips then
      k0_pay60 (rSc x) k0_pay34 cIdx tIdx (kept x).2 ⟨k, h⟩ (ranks k) (lanes (rFin x) k) else ranks k
/-- What the body stores. -/
def out : FVec F S8x384 .f32 :=
  k0_pay1 (k0_pay61 (ranks x k0_t2_loop.trips)) (k0_pay62 (cX1 x) (cY1 x) (cX2 x) (cY2 x) (cSc x))
end
end Cert.KernelIdeal.Own
end
-- ==== Proof.KLoops.lean ====
module
public import proofs.«01_k».proof.Proof.KChain

/-!
# The kernel's two counted loops

One trip's stores and values, then the table of words and the ranks after all trips, whatever the scratch held before.
-/

@[expose] public section
set_option maxRecDepth 65536
noncomputable section
namespace Cert.KernelIdeal.Own
open Idealize.ShloMosaic Idealize.ShloMosaic.TcCoe
open Cert.KernelIdeal Cert.KernelIdeal.Gen
variable {F : FTy → Type} [FloatOps F]

/-- Row `o` of the scratch rows. -/
abbrev rowRect (o : ℕ) (h : ∀ a, (![o, 0] : Fin 2 → ℕ) a + S1x5120.size a ≤ S8x5120.size a) : Rect S8x5120 :=
  Rect.unit (s := S8x5120) ![o, 0] S1x5120.size h

/-- The six rows stored before the loops, the last first. -/
abbrev rows6 (w0 w1 w2 w3 w4 w5 : FVec F S1x5120 .f32) : List (View.Piece (Elt F) S8x5120 .f32) :=
  [⟨rowRect 5 inb_S8x5120_S1x5120_5_0, w5⟩, ⟨rowRect 4 inb_S8x5120_S1x5120_4_0, w4⟩,
   ⟨rowRect 3 inb_S8x5120_S1x5120_3_0, w3⟩, ⟨rowRect 2 inb_S8x5120_S1x5120_2_0, w2⟩,
   ⟨rowRect 1 inb_S8x5120_S1x5120_1_0, w1⟩, ⟨rowRect 0 inb_S8x5120_S1x5120_0_0, w0⟩]

/-- A stored row, read at its own row. -/
theorem read_row_hit (v : View sig .tc .vmem S8x5120 .f32) (f : BufTy.Contents (Elt F) v.ty) (o : ℕ) (h) (w : FVec F S1x5120 .f32)
    (L : List (View.Piece (Elt F) S8x5120 .f32)) (y : S8x5120.Idx) (hy : (y 0).val = o) :
    v.read (Elt F) (v.writes (Elt F) f (⟨rowRect o h, w⟩ :: L)) y = w (ix2 0 (y 1)) := by
  refine View.read_writes_cons_hit_of_coords v f (rowRect o h) w L (ix2 0 (y 1)) y ?_
  intro a
  match a with
  | ⟨0, _⟩ => show (y 0).val = o + 1 * 0; omega
  | ⟨1, _⟩ => show (y 1).val = 0 + 1 * (y 1).val; omega

/-- A stored row does not matter to another row. -/
theorem read_row_miss (v : View sig .tc .vmem S8x5120 .f32) (f : BufTy.Contents (Elt F) v.ty) (o : ℕ) (h) (w : FVec F S1x5120 .f32)
    (L : List (View.Piece (Elt F) S8x5120 .f32)) (y : S8x5120.Idx) (hy : (y 0).val ≠ o) :
    v.read (Elt F) (v.writes (Elt F) f (⟨rowRect o h, w⟩ :: L)) y = v.read (Elt F) (v.writes (Elt F) f L) y := by
  refine View.read_writes_cons_miss_of_axis v f ⟨rowRect o h, w⟩ L y 0 o 1 rfl rfl rfl ?_
  omega

/-- Row 0 of the six stored rows. -/
theorem read_rows6_0 (v : View sig .tc .vmem S8x5120 .f32) (f : BufTy.Contents (Elt F) v.ty) (w0 w1 w2 w3 w4 w5 : FVec F S1x5120 .f32)
    (k : Fin k0_t1_loop.trips) :
    v.readAt (Elt F) (Rect.unit (s := S8x5120) (k0_off1 k) S1x128.size (k0_off1_inb k)).toLoadRect (v.writes (Elt F) f (rows6 w0 w1 w2 w3 w4 w5))
      = lanes w0 k.val := by
  funext j
  rw [View.readAt_apply]
  have hk : k.val < 40 := Nat.lt_of_lt_of_le k.isLt k0_t1_abs.2.1
  generalize hyy : (Rect.unit (s := S8x5120) (k0_off1 k) S1x128.size (k0_off1_inb k)).toLoadRect.idx j = y
  have hy : (y 0).val = 0 := by
    rw [← hyy]
    have e : (k0_off1 k) 0 = 0 := by rw [k0_off1_eq]; rfl
    have hj : (j 0).val < 1 := (j 0).isLt
    show (k0_off1 k) 0 + 1 * (j 0).val = 0
    omega
  have hy1 : (y 1).val = 128 * k.val + (j 1).val := by
    rw [← hyy]
    have e : (k0_off1 k) 1 = 128 * k.val := by rw [k0_off1_eq]; rfl
    show (k0_off1 k) 1 + 1 * (j 1).val = _
    omega
  have hj : (j 1).val < 128 := (j 1).isLt
  have key : v.read (Elt F) (v.writes (Elt F) f (rows6 w0 w1 w2 w3 w4 w5)) y = w0 (ix2 0 (y 1)) := by
    rw [read_row_miss _ _ _ _ _ _ _ (by rw [hy]; decide)]
    rw [read_row_miss _ _ _ _ _ _ _ (by rw [hy]; decide)]
    rw [read_row_miss _ _ _ _ _ _ _ (by rw [hy]; decide)]
    rw [read_row_miss _ _ _ _ _ _ _ (by rw [hy]; decide)]
    rw [read_row_miss _ _ _ _ _ _ _ (by rw [hy]; decide)]
    exact read_row_hit _ _ _ _ _ _ _ hy
  rw [key]
  unfold lanes
  congr 2
  apply Fin.ext
  show (y 1).val = (128 * k.val + (j 1).val) % 5120
  rw [hy1, Nat.mod_eq_of_lt (by omega)]

/-- Row 1 of the six stored rows. -/
theorem read_rows6_1 (v : View sig .tc .vmem S8x5120 .f32) (f : BufTy.Contents (Elt F) v.ty) (w0 w1 w2 w3 w4 w5 : FVec F S1x5120 .f32)
    (k : Fin k0_t1_loop.trips) :
    v.readAt (Elt F) (Rect.unit (s := S8x5120) (k0_off2 k) S1x128.size (k0_off2_inb k)).toLoadRect (v.writes (Elt F) f (rows6 w0 w1 w2 w3 w4 w5))
      = lanes w1 k.val := by
  funext j
  rw [View.readAt_apply]
  have hk : k.val < 40 := Nat.lt_of_lt_of_le k.isLt k0_t1_abs.2.1
  generalize hyy : (Rect.unit (s := S8x5120) (k0_off2 k) S1x128.size (k0_off2_inb k)).toLoadRect.idx j = y
  have hy : (y 0).val = 1 := by
    rw [← hyy]
    have e : (k0_off2 k) 0 = 1 := by rw [k0_off2_eq]; rfl
    have hj : (j 0).val < 1 := (j 0).isLt
    show (k0_off2 k) 0 + 1 * (j 0).val = 1
    omega
  have hy1 : (y 1).val = 128 * k.val + (j 1).val := by
    rw [← hyy]
    have e : (k0_off2 k) 1 = 128 * k.val := by rw [k0_off2_eq]; rfl
    show (k0_off2 k) 1 + 1 * (j 1).val = _
    omega
  have hj : (j 1).val < 128 := (j 1).isLt
  have key : v.read (Elt F) (v.writes (Elt F) f (rows6 w0 w1 w2 w3 w4 w5)) y = w1 (ix2 0 (y 1)) := by
    rw [read_row_miss _ _ _ _ _ _ _ (by rw [hy]; decide)]
    rw [read_row_miss _ _ _ _ _ _ _ (by rw [hy]; decide)]
    rw [read_row_miss _ _ _ _ _ _ _ (by rw [hy]; decide)]
    rw [read_row_miss _ _ _ _ _ _ _ (by rw [hy]; decide)]
    exact read_row_hit _ _ _ _ _ _ _ hy
  rw [key]
  unfold lanes
  congr 2
  apply Fin.ext
  show (y 1).val = (128 * k.val + (j 1).val) % 5120
  rw [hy1, Nat.mod_eq_of_lt (by omega)]

/-- Row 2 of the six stored rows. -/
theorem read_rows6_2 (v : View sig .tc .vmem S8x5120 .f32) (f : BufTy.Contents (Elt F) v.ty) (w0 w1 w2 w3 w4 w5 : FVec F S1x5120 .f32)
    (k : Fin k0_t1_loop.trips) :
    v.readAt (Elt F) (Rect.unit (s := S8x5120) (k0_off3 k) S1x128.size (k0_off3_inb k)).toLoadRect (v.writes (Elt F) f (rows6 w0 w1 w2 w3 w4 w5))
      = lanes w2 k.val := by
  funext j
  rw [View.readAt_apply]
  have hk : k.val < 40 := Nat.lt_of_lt_of_le k.isLt k0_t1_abs.2.1
  generalize hyy : (Rect.unit (s := S8x5120) (k0_off3 k) S1x128.size (k0_off3_inb k)).toLoadRect.idx j = y
  have hy : (y 0).val = 2 := by
    rw [← hyy]
    have e : (k0_off3 k) 0 = 2 := by rw [k0_off3_eq]; rfl
    have hj : (j 0).val < 1 := (j 0).isLt
    show (k0_off3 k) 0 + 1 * (j 0).val = 2
    omega
  have hy1 : (y 1).val = 128 * k.val + (j 1).val := by
    rw [← hyy]
    have e : (k0_off3 k) 1 = 128 * k.val := by rw [k0_off3_eq]; rfl
    show (k0_off3 k) 1 + 1 * (j 1).val = _
    omega
  have hj : (j 1).val < 128 := (j 1).isLt
  have key : v.read (Elt F) (v.writes (Elt F) f (rows6 w0 w1 w2 w3 w4 w5)) y = w2 (ix2 0 (y 1)) := by
    rw [read_row_miss _ _ _ _ _ _ _ (by rw [hy]; decide)]
    rw [read_row_miss _ _ _ _ _ _ _ (by rw [hy]; decide)]
    rw [read_row_miss _ _ _ _ _ _ _ (by rw [hy]; decide)]
    exact read_row_hit _ _ _ _ _ _ _ hy
  rw [key]
  unfold lanes
  congr 2
  apply Fin.ext
  show (y 1).val = (128 * k.val + (j 1).val) % 5120
  rw [hy1, Nat.mod_eq_of_lt (by omega)]

/-- Row 3 of the six stored rows. -/
theorem read_rows6_3 (v : View sig .tc .vmem S8x5120 .f32) (f : BufTy.Contents (Elt F) v.ty) (w0 w1 w2 w3 w4 w5 : FVec F S1x5120 .f32)
    (k : Fin k0_t1_loop.trips) :
    v.readAt (Elt F) (Rect.unit (s := S8x5120) (k0_off4 k) S1x128.size (k0_off4_inb k)).toLoadRect (v.writes (Elt F) f (rows6 w0 w1 w2 w3 w4 w5))
      = lanes w3 k.val := by
  funext j
  rw [View.readAt_apply]
  have hk : k.val < 40 := Nat.lt_of_lt_of_le k.isLt k0_t1_abs.2.1
  generalize hyy : (Rect.unit (s := S8x5120) (k0_off4 k) S1x128.size (k0_off4_inb k)).toLoadRect.idx j = y
  have hy : (y 0).val = 3 := by
    rw [← hyy]
    have e : (k0_off4 k) 0 = 3 := by rw [k0_off4_eq]; rfl
    have hj : (j 0).val < 1 := (j 0).isLt
    show (k0_off4 k) 0 + 1 * (j 0).val = 3
    omega
  have hy1 : (y 1).val = 128 * k.val + (j 1).val := by
    rw [← hyy]
    have e : (k0_off4 k) 1 = 128 * k.val := by rw [k0_off4_eq]; rfl
    show (k0_off4 k) 1 + 1 * (j 1).val = _
    omega
  have hj : (j 1).val < 128 := (j 1).isLt
  have key : v.read (Elt F) (v.writes (Elt F) f (rows6 w0 w1 w2 w3 w4 w5)) y = w3 (ix2 0 (y 1)) := by
    rw [read_row_miss _ _ _ _ _ _ _ (by rw [hy]; decide)]
    rw [read_row_miss _ _ _ _ _ _ _ (by rw [hy]; decide)]
    exact read_row_hit _ _ _ _ _ _ _ hy
  rw [key]
  unfold lanes
  congr 2
  apply Fin.ext
  show (y 1).val = (128 * k.val + (j 1).val) % 5120
  rw [hy1, Nat.mod_eq_of_lt (by omega)]

/-- Row 4 of the six stored rows. -/
theorem read_rows6_4 (v : View sig .tc .vmem S8x5120 .f32) (f : BufTy.Contents (Elt F) v.ty) (w0 w1 w2 w3 w4 w5 : FVec F S1x5120 .f32)
    (k : Fin k0_t1_loop.trips) :
    v.readAt (Elt F) (Rect.unit (s := S8x5120) (k0_off5 k) S1x128.size (k0_off5_inb k)).toLoadRect (v.writes (Elt F) f (rows6 w0 w1 w2 w3 w4 w5))
      = lanes w4 k.val := by
  funext j
  rw [View.readAt_apply]
  have hk : k.val < 40 := Nat.lt_of_lt_of_le k.isLt k0_t1_abs.2.1
  generalize hyy : (Rect.unit (s := S8x5120) (k0_off5 k) S1x128.size (k0_off5_inb k)).toLoadRect.idx j = y
  have hy : (y 0).val = 4 := by
    rw [← hyy]
    have e : (k0_off5 k) 0 = 4 := by rw [k0_off5_eq]; rfl
    have hj : (j 0).val < 1 := (j 0).isLt
    show (k0_off5 k) 0 + 1 * (j 0).val = 4
    omega
  have hy1 : (y 1).val = 128 * k.val + (j 1).val := by
    rw [← hyy]
    have e : (k0_off5 k) 1 = 128 * k.val := by rw [k0_off5_eq]; rfl
    show (k0_off5 k) 1 + 1 * (j 1).val = _
    omega
  have hj : (j 1).val < 128 := (j 1).isLt
  have key : v.read (Elt F) (v.writes (Elt F) f (rows6 w0 w1 w2 w3 w4 w5)) y = w4 (ix2 0 (y 1)) := by
    rw [read_row_miss _ _ _ _ _ _ _ (by rw [hy]; decide)]
    exact read_row_hit _ _ _ _ _ _ _ hy
  rw [key]
  unfold lanes
  congr 2
  apply Fin.ext
  show (y 1).val = (128 * k.val + (j 1).val) % 5120
  rw [hy1, Nat.mod_eq_of_lt (by omega)]

/-- Row 5 of the six stored rows. -/
theorem read_rows6_5 (v : View sig .tc .vmem S8x5120 .f32) (f : BufTy.Contents (Elt F) v.ty) (w0 w1 w2 w3 w4 w5 : FVec F S1x5120 .f32)
    (k : Fin k0_t1_loop.trips) :
    v.readAt (Elt F) (Rect.unit (s := S8x5120) (k0_off6 k) S1x128.size (k0_off6_inb k)).toLoadRect (v.writes (Elt F) f (rows6 w0 w1 w2 w3 w4 w5))
      = lanes w5 k.val := by
  funext j
  rw [View.readAt_apply]
  have hk : k.val < 40 := Nat.lt_of_lt_of_le k.isLt k0_t1_abs.2.1
  generalize hyy : (Rect.unit (s := S8x5120) (k0_off6 k) S1x128.size (k0_off6_inb k)).toLoadRect.idx j = y
  have hy : (y 0).val = 5 := by
    rw [← hyy]
    have e : (k0_off6 k) 0 = 5 := by rw [k0_off6_eq]; rfl
    have hj : (j 0).val < 1 := (j 0).isLt
    show (k0_off6 k) 0 + 1 * (j 0).val = 5
    omega
  have hy1 : (y 1).val = 128 * k.val + (j 1).val := by
    rw [← hyy]
    have e : (k0_off6 k) 1 = 128 * k.val := by rw [k0_off6_eq]; rfl
    show (k0_off6 k) 1 + 1 * (j 1).val = _
    omega
  have hj : (j 1).val < 128 := (j 1).isLt
  have key : v.read (Elt F) (v.writes (Elt F) f (rows6 w0 w1 w2 w3 w4 w5)) y = w5 (ix2 0 (y 1)) := by
    exact read_row_hit _ _ _ _ _ _ _ hy
  rw [key]
  unfold lanes
  congr 2
  apply Fin.ext
  show (y 1).val = (128 * k.val + (j 1).val) % 5120
  rw [hy1, Nat.mod_eq_of_lt (by omega)]

/-- Row 6, stored last, read in the second loop. -/
theorem read_rows7_6 (v : View sig .tc .vmem S8x5120 .f32) (f : BufTy.Contents (Elt F) v.ty) (w6 : FVec F S1x5120 .f32)
    (L : List (View.Piece (Elt F) S8x5120 .f32)) (k : Fin k0_t2_loop.trips) :
    v.readAt (Elt F) (Rect.unit (s := S8x5120) (k0_off8 k) S1x128.size (k0_off8_inb k)).toLoadRect
      (v.writes (Elt F) f (⟨rowRect 6 inb_S8x5120_S1x5120_6_0, w6⟩ :: L)) = lanes w6 k.val := by
  funext j
  rw [View.readAt_apply]
  have hk : k.val < 40 := Nat.lt_of_lt_of_le k.isLt k0_t2_abs.2.1
  generalize hyy : (Rect.unit (s := S8x5120) (k0_off8 k) S1x128.size (k0_off8_inb k)).toLoadRect.idx j = y
  have hy : (y 0).val = 6 := by
    rw [← hyy]
    have e : (k0_off8 k) 0 = 6 := by rw [k0_off8_eq]; rfl
    have hj : (j 0).val < 1 := (j 0).isLt
    show (k0_off8 k) 0 + 1 * (j 0).val = 6
    omega
  have hy1 : (y 1).val = 128 * k.val + (j 1).val := by
    rw [← hyy]
    have e : (k0_off8 k) 1 = 128 * k.val := by rw [k0_off8_eq]; rfl
    show (k0_off8 k) 1 + 1 * (j 1).val = _
    omega
  have hj : (j 1).val < 128 := (j 1).isLt
  rw [read_row_hit _ _ _ _ _ _ _ hy]
  unfold lanes
  congr 2
  apply Fin.ext
  show (y 1).val = (128 * k.val + (j 1).val) % 5120
  rw [hy1, Nat.mod_eq_of_lt (by omega)]

section
variable (𝒱 : Variants) (c : Dev nD) (bd : Option 𝒱.V) (arg0 : Memref sig .tc .vmem S16x5120 .f32) (harg0 : arg0.IsWhole) (arg1 : Memref sig .tc .vmem S8x384 .f32) (harg1 : arg1.IsWhole) (arg2 : Memref sig .tc .vmem S8x5120 .f32) (harg2 : arg2.IsWhole) (arg3 : Memref sig .tc .vmem S320x5120 .i32) (harg3 : arg3.IsWhole) (v85 : FVec F S1x5120 .f32) (v97 : IVec S1x5120 1) (v101 : FVec F S1x1 .f32) (v111 : FVec F S5120x1 .f32) (v112 : FVec F S5120x1 .f32) (v113 : FVec F S5120x1 .f32) (v114 : FVec F S5120x1 .f32) (v116 : FVec F S5120x1 .f32) (v117 : FVec F S5120x1 .f32) (v118 : IVec S5120x1 32) (v137 : IVec S1x128 32) (v141 : FVec F S5120x1 .f32) (v168 : IVec S5120x320 1) (v169 : IVec S5120x320 32) (v171 : BitVec 32) (v173 : IVec S5120x320 32) (v174 : IVec S5120x320 32)

/-- One trip of the first loop stores one tile of words. -/
theorem tripL_eq (X : BufTy.Contents (Elt F) arg2.view.ty) (k : Fin k0_t1_loop.trips) :
    tripL_k0_t1 (F := F) 𝒱 c bd arg0 harg0 arg1 harg1 arg2 harg2 arg3 harg3 v85 v97 v101 v111 v112 v113 v114 v116 v117 v118 v137 v141 v168 v169 v171 v173 v174 X k
      = [⟨Rect.unit (s := S320x5120) (k0_off7 k) S320x128.size (k0_off7_inb k),
          k0_pay55 (F := F) v118 v168 v169 v171 v173 v174 (k0_pay4 v137 0#32 1#32 k)
            (k0_pay5 v111 v112 v113 v114 v141 (arg2.view.readAt (Elt F) (Rect.unit (s := S8x5120) (k0_off1 k) S1x128.size (k0_off1_inb k)).toLoadRect X) (arg2.view.readAt (Elt F) (Rect.unit (s := S8x5120) (k0_off2 k) S1x128.size (k0_off2_inb k)).toLoadRect X)
              (arg2.view.readAt (Elt F) (Rect.unit (s := S8x5120) (k0_off3 k) S1x128.size (k0_off3_inb k)).toLoadRect X) (arg2.view.readAt (Elt F) (Rect.unit (s := S8x5120) (k0_off4 k) S1x128.size (k0_off4_inb k)).toLoadRect X)
              (arg2.view.readAt (Elt F) (Rect.unit (s := S8x5120) (k0_off5 k) S1x128.size (k0_off5_inb k)).toLoadRect X))
            (k0_pay6 v116 (arg2.view.readAt (Elt F) (Rect.unit (s := S8x5120) (k0_off6 k) S1x128.size (k0_off6_inb k)).toLoadRect X))
            (k0_pay7 v116 (arg2.view.readAt (Elt F) (Rect.unit (s := S8x5120) (k0_off6 k) S1x128.size (k0_off6_inb k)).toLoadRect X))⟩] := by
  unfold tripL_k0_t1 trip_k0_t1
  rfl

/-- The table after the first `n` trips, when each trip's tile is `T k`, at a lane those trips cover. -/
theorem read_table (X : BufTy.Contents (Elt F) arg2.view.ty) (f : BufTy.Contents (Elt F) arg3.view.ty)
    (T : (k : Fin k0_t1_loop.trips) → Vec F S320x128 .i32)
    (hT : ∀ k, tripL_k0_t1 (F := F) 𝒱 c bd arg0 harg0 arg1 harg1 arg2 harg2 arg3 harg3 v85 v97 v101 v111 v112 v113 v114 v116 v117 v118 v137 v141 v168 v169 v171 v173 v174 X k
      = [⟨Rect.unit (s := S320x5120) (k0_off7 k) S320x128.size (k0_off7_inb k), T k⟩]) :
    ∀ n, n ≤ k0_t1_loop.trips → ∀ y : S320x5120.Idx, (hy : (y 1).val < 128 * n) →
      arg3.view.read (Elt F) (arg3.view.writes (Elt F) f (pb_k0_t1 (F := F) 𝒱 c bd arg0 harg0 arg1 harg1 arg2 harg2 arg3 harg3 v85 v97 v101 v111 v112 v113 v114 v116 v117 v118 v137 v141 v168 v169 v171 v173 v174 X n)) y
        = T (tileNo (y 1)) (ix2 (y 0) ⟨(y 1).val % 128, Nat.mod_lt _ (by norm_num)⟩) := by
  intro n
  induction n with
  | zero => intro _ y hy; omega
  | succ n ih =>
    intro hn y hy
    have hp := pb_k0_t1_succ (F := F) 𝒱 c bd arg0 harg0 arg1 harg1 arg2 harg2 arg3 harg3 v85 v97 v101 v111 v112 v113 v114 v116 v117 v118 v137 v141 v168 v169 v171 v173 v174 X ⟨n, hn⟩
    rw [show (pb_k0_t1 (F := F) 𝒱 c bd arg0 harg0 arg1 harg1 arg2 harg2 arg3 harg3 v85 v97 v101 v111 v112 v113 v114 v116 v117 v118 v137 v141 v168 v169 v171 v173 v174 X (n + 1)) = _ from hp, hT ⟨n, hn⟩]
    have e0 : (k0_off7 ⟨n, hn⟩) 0 = 0 := by rw [k0_off7_eq]; rfl
    have e1 : (k0_off7 ⟨n, hn⟩) 1 = 128 * n := by rw [k0_off7_eq]; rfl
    by_cases h : 128 * n ≤ (y 1).val
    · have ht : tileNo (y 1) = ⟨n, hn⟩ := Fin.ext (by show (y 1).val / 128 = n; omega)
      rw [ht]
      refine View.read_writes_cons_hit_of_coords _ _ _ _ _ _ _ ?_
      intro a
      match a with
      | ⟨0, _⟩ => show (y 0).val = (k0_off7 ⟨n, hn⟩) 0 + 1 * (y 0).val; omega
      | ⟨1, _⟩ => show (y 1).val = (k0_off7 ⟨n, hn⟩) 1 + 1 * ((y 1).val % 128); omega
    · refine (View.read_writes_cons_miss_of_axis _ _ _ _ y 1 (128 * n) 128 e1 rfl rfl (Or.inl (by omega))).trans ?_
      exact ih (by omega) y (by omega)

/-- One trip of the second loop adds one tile's counts. -/
theorem tripR_eq (keep : FVec F S1x5120 .f32) (X : BufTy.Contents (Elt F) arg2.view.ty) (k : Fin k0_t2_loop.trips) (acc : FVec F S5120x1 .f32) :
    tripR_k0_t2 (F := F) 𝒱 c bd arg0 harg0 arg1 harg1 arg2 harg2 arg3 harg3 v85 v97 v101 v111 v112 v113 v114 v116 v117 v118 v137 v141 v168 v169 v171 v173 v174 keep X k acc
      = k0_pay60 v85 v101 v118 v137 keep k acc (arg2.view.readAt (Elt F) (Rect.unit (s := S8x5120) (k0_off8 k) S1x128.size (k0_off8_inb k)).toLoadRect X) := by
  unfold tripR_k0_t2 trip_k0_t2
  rfl

end

/-- The table after all trips is `table x`, whatever the scratches held before. -/
theorem table_eq (x : Vec F S16x5120 .f32) (𝒱 : Variants) (c : Dev nD) (bd : Option 𝒱.V) (arg0 : Memref sig .tc .vmem S16x5120 .f32) (harg0 : arg0.IsWhole) (arg1 : Memref sig .tc .vmem S8x384 .f32) (harg1 : arg1.IsWhole) (arg2 : Memref sig .tc .vmem S8x5120 .f32) (harg2 : arg2.IsWhole) (arg3 : Memref sig .tc .vmem S320x5120 .i32) (harg3 : arg3.IsWhole) (v85 : FVec F S1x5120 .f32) (v97 : IVec S1x5120 1) (v101 : FVec F S1x1 .f32) (v117 : FVec F S5120x1 .f32)
    (G2 : BufTy.Contents (Elt F) arg2.view.ty) (G3 : BufTy.Contents (Elt F) arg3.view.ty) :
    tableOf arg3 (arg3.view.writes (Elt F) G3 (pb_k0_t1 (F := F) 𝒱 c bd arg0 harg0 arg1 harg1 arg2 harg2 arg3 harg3
      v85 v97 v101 (cX1 x) (cY1 x) (cX2 x) (cY2 x) (cSm x) v117 cIdx tIdx (cHalf x) k0_pay50 k0_pay51 16#32 k0_pay52 k0_pay53
      (arg2.view.writes (Elt F) G2 (rows6 (rX1 x) (rY1 x) (rX2 x) (rY2 x) (rArea x) (rSm x)))
      (Scf.trips k0_t1_loop.lb k0_t1_loop.ub k0_t1_loop.st))) = table x := by
  funext y
  show arg3.view.read (Elt F) _ _ = _
  have e : (Rect.unit (s := S320x5120) ![0, 0] S320x5120.size inb_S320x5120_S320x5120_0_0).toLoadRect.idx y = y := by
    funext a
    apply Fin.ext
    match a with
    | ⟨0, _⟩ => show 0 + 1 * (y 0).val = (y 0).val; omega
    | ⟨1, _⟩ => show 0 + 1 * (y 1).val = (y 1).val; omega
  rw [e]
  refine read_table 𝒱 c bd arg0 harg0 arg1 harg1 arg2 harg2 arg3 harg3 _ _ _ _ _ _ _ _ _ _ _ _ _ _ _ _ _ _ _ (tile x) ?_ k0_t1_loop.trips (le_refl _) y ?_
  · intro k
    rw [tripL_eq, read_rows6_0, read_rows6_1, read_rows6_2, read_rows6_3, read_rows6_4, read_rows6_5]
    rfl
  · have : k0_t1_loop.trips = 40 := by decide +kernel
    have := (y 1).isLt
    have : S320x5120.size 1 = 5120 := rfl
    omega

/-- The ranks after `n` trips. -/
theorem ranks_eq (x : Vec F S16x5120 .f32) (𝒱 : Variants) (c : Dev nD) (bd : Option 𝒱.V) (arg0 : Memref sig .tc .vmem S16x5120 .f32) (harg0 : arg0.IsWhole) (arg1 : Memref sig .tc .vmem S8x384 .f32) (harg1 : arg1.IsWhole) (arg2 : Memref sig .tc .vmem S8x5120 .f32) (harg2 : arg2.IsWhole) (arg3 : Memref sig .tc .vmem S320x5120 .i32) (harg3 : arg3.IsWhole) (v97 : IVec S1x5120 1) (v111 : FVec F S5120x1 .f32) (v112 : FVec F S5120x1 .f32) (v113 : FVec F S5120x1 .f32) (v114 : FVec F S5120x1 .f32) (v116 : FVec F S5120x1 .f32) (v117 : FVec F S5120x1 .f32) (v141 : FVec F S5120x1 .f32) (v168 : IVec S5120x320 1) (v169 : IVec S5120x320 32) (v171 : BitVec 32) (v173 : IVec S5120x320 32) (v174 : IVec S5120x320 32)
    (G2 : BufTy.Contents (Elt F) arg2.view.ty) (L : List (View.Piece (Elt F) S8x5120 .f32)) (n : ℕ) :
    st_k0_t2 (F := F) 𝒱 c bd arg0 harg0 arg1 harg1 arg2 harg2 arg3 harg3 (rSc x) v97 k0_pay34 v111 v112 v113 v114 v116 v117 cIdx tIdx v141 v168 v169 v171 v173 v174 (kept x).2
      (arg2.view.writes (Elt F) G2 (⟨rowRect 6 inb_S8x5120_S1x5120_6_0, rFin x⟩ :: L)) k0_pay59 n = ranks x n := by
  induction n with
  | zero => rfl
  | succ n ih =>
    rw [st_k0_t2.eq_2]
    unfold st_k0_t2Step
    rw [ranks]
    split
    · rw [tripR_eq, read_rows7_6, ih]
    · exact ih

end Cert.KernelIdeal.Own
end
-- ==== Proof.KBody.lean ====
module
public import proofs.«01_k».proof.Proof.KLoops
public import proofs.«01_k».proof.Proof.Gen.KernelIdeal.Points

/-!
# The kernel's body, run

From the block `x` of the input window the body leaves `out x` in the output window, whatever the two scratches held, when
the fixpoint loop comes to rest within its trips.
-/

@[expose] public section
set_option maxRecDepth 65536
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄" => MT nD τ sig Unit (Elt F) ℕ (UR sig nD τ) ℕ

/-- A row cast to its own shape is the row. -/
theorem row_cast (w : FVec F S1x5120 .f32) : shapeCast S1x5120 w shapeCasts_S1x5120_S1x5120 = w := shapeCast_self _ _

/-- The input block, read whole. -/
abbrev blockOf (arg0 : Memref sig .tc .vmem S16x5120 .f32) (X0 : BufTy.Contents (Elt F) arg0.view.ty) : Vec F S16x5120 .f32 :=
  arg0.view.readAt (Elt F) (Rect.unit (s := S16x5120) ![0, 0] S16x5120.size inb_S16x5120_S16x5120_0_0).toLoadRect X0

/-- The whole output window. -/
abbrev outRect : Rect S8x384 := Rect.unit (s := S8x384) ![0, 0] S8x384.size inb_S8x384_S8x384_0_0

/-- The six rows as the body stores them. -/
theorem rows6_cast (w0 w1 w2 w3 w4 w5 : FVec F S1x5120 .f32) :
    rows6 (k0_pay43 w0) (k0_pay44 w1) (k0_pay45 w2) (k0_pay46 w3) (k0_pay47 w4) (k0_pay48 w5) = rows6 w0 w1 w2 w3 w4 w5 := by
  have e0 : k0_pay43 w0 = w0 := row_cast w0
  have e1 : k0_pay44 w1 = w1 := row_cast w1
  have e2 : k0_pay45 w2 = w2 := row_cast w2
  have e3 : k0_pay46 w3 = w3 := row_cast w3
  have e4 : k0_pay47 w4 = w4 := row_cast w4
  have e5 : k0_pay48 w5 = w5 := row_cast w5
  rw [e0, e1, e2, e3, e4, e5]

/-- The final scores as the body stores them. -/
theorem fin_cast (x : Vec F S16x5120 .f32) : k0_pay58 (rSc x) (kept x).2 = rFin x := row_cast _

/-- The body, from any contents of its windows and scratch, ends with its stored result in the output window. -/
theorem body_run (c : Dev nD) (arg0 : Memref sig .tc .vmem S16x5120 .f32) (harg0 : arg0.IsWhole) (arg1 : Memref sig .tc .vmem S8x384 .f32) (harg1 : arg1.IsWhole) (arg2 : Memref sig .tc .vmem S8x5120 .f32) (harg2 : arg2.IsWhole) (arg3 : Memref sig .tc .vmem S320x5120 .i32) (harg3 : arg3.IsWhole)
    (X0 : BufTy.Contents (Elt F) arg0.view.ty) (X1 : BufTy.Contents (Elt F) arg1.view.ty) (G2 : BufTy.Contents (Elt F) arg2.view.ty) (G3 : BufTy.Contents (Elt F) arg3.view.ty)
    (hrest : (kept (blockOf arg0 X0)).1 ≠ 1#1) :
    iprop((arg0.view.loc (c : Thread nD τ) ↦[arg0.view.set]{fullShare} X0) ∗ (arg1.view.loc (c : Thread nD τ) ↦[arg1.view.set]{fullShare} X1)
      ∗ (arg2.view.loc (c : Thread nD τ) ↦[arg2.view.set]{fullShare} G2) ∗ (arg3.view.loc (c : Thread nD τ) ↦[arg3.view.set]{fullShare} G3))
    ⊢ (wp frame (wpE (defs₀ (F := F)) Variants.nat (c : Thread nD τ) none) Set.univ (cc0__body arg0 harg0 arg1 harg1 arg2 harg2 arg3 harg3) fun _ =>
        iprop((arg0.view.loc (c : Thread nD τ) ↦[arg0.view.set]{fullShare} X0)
          ∗ (arg1.view.loc (c : Thread nD τ) ↦[arg1.view.set]{fullShare} arg1.view.writes (Elt F) X1 [⟨outRect, out (blockOf arg0 X0)⟩])
          ∗ (∃ f, arg2.view.loc (c : Thread nD τ) ↦[arg2.view.set]{fullShare} f)
          ∗ (∃ f, arg3.view.loc (c : Thread nD τ) ↦[arg3.view.set]{fullShare} f)) : sProp 𝕄) := by
  iintro ⟨H0, H1, H2, H3⟩
  simp only [cc0__body_eq_skeleton]
  unfold cc0__body_skel
  sl_exec
  have hT := table_eq (blockOf arg0 X0) Variants.nat c none arg0 harg0 arg1 harg1 arg2 harg2 arg3 harg3
    (rSc (blockOf arg0 X0)) (rValid (blockOf arg0 X0)) k0_pay34 (cSc (blockOf arg0 X0)) G2 G3
  rw [← rows6_cast] at hT
  iapply (wp_call_spec Variants.nat (c : Thread nD τ) none Set.univ
    (spec c qpow (rMark (blockOf arg0 X0)) arg3 _ fuel 1#1 (rMark (blockOf arg0 X0))) fuel (fun u hu => nomatch hu)
    (spec_le c Set.univ _ _ arg3 harg3 _ fuel _ _ (by rw [hT]; exact hrest)))
  rw [spec_apply, hT]
  isplitl [H3]
  · iexact H3
  iintro H3
  rw [show run qpow (rMark (blockOf arg0 X0)) (table (blockOf arg0 X0)) fuel 1#1 (rMark (blockOf arg0 X0)) = kept (blockOf arg0 X0) from rfl]
  sl_exec
  have hR := ranks_eq (blockOf arg0 X0) Variants.nat c none arg0 harg0 arg1 harg1 arg2 harg2 arg3 harg3
    (rValid (blockOf arg0 X0)) (cX1 (blockOf arg0 X0)) (cY1 (blockOf arg0 X0)) (cX2 (blockOf arg0 X0))
    (cY2 (blockOf arg0 X0)) (cSm (blockOf arg0 X0)) (cSc (blockOf arg0 X0)) (cHalf (blockOf arg0 X0))
    k0_pay50 k0_pay51 16#32 k0_pay52 k0_pay53 G2
    (rows6 (k0_pay43 (rX1 (blockOf arg0 X0))) (k0_pay44 (rY1 (blockOf arg0 X0))) (k0_pay45 (rX2 (blockOf arg0 X0)))
      (k0_pay46 (rY2 (blockOf arg0 X0))) (k0_pay47 (rArea (blockOf arg0 X0))) (k0_pay48 (rSm (blockOf arg0 X0)))) k0_t2_loop.trips
  rw [← fin_cast] at hR
  have hv : out (blockOf arg0 X0) = k0_pay1 (body_run.sl.r_28 c arg0 harg0 arg1 harg1 arg2 harg2 arg3 harg3 X0 G2) (body_run.sl.r_29 arg0 X0) := by
    unfold out
    rw [← hR]
    rfl
  rw [hv, wp_ret]
  imodintro
  isplitl [H0]
  · iexact H0
  isplitl [H1]
  · iexact H1
  isplitl [H2]
  · iexists _
    iexact H2
  iexists _
  iexact H3
end Cert.KernelIdeal.Own
end
-- ==== Proof.KLaunch.lean ====
module
public import proofs.«01_k».proof.Proof.KBody
public import proofs.«01_k».proof.Proof.Gen.KernelIdeal.Launch
public import Idealize.ShloMosaic.Lib.Pipeline.FrameSuffix
public import Idealize.ShloMosaic.Lib.Pipeline.ValueKit
public import Idealize.ShloMosaic.Lib.VecWindow

/-!
# The kernel program, run

The host operations before the call, the call, and the host operations after it: when the fixpoint loop comes to rest, every
buffer of the pipeline ends as named here and every semaphore counter at zero.
-/

@[expose] public section
set_option maxRecDepth 65536
noncomputable section
namespace Cert.KernelIdeal.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The buffers when the call begins. -/
abbrev V0 (c : Dev nD) : Valuation τ sig (Elt F) := StableHlo.after (List.flatten [hostOps0]) (fun b => m (c, b))
/-- The same, read at a buffer. -/
abbrev V (c : Dev nD) (b : Ref sig .tc) : Buf (Elt F) ((c : Thread nD τ).loc b) := V0 m c (Proc.devRef .tc b)
/-- The array the host operations build for the kernel. -/
@[irreducible] def inp (c : Dev nD) : Vec F S16x5120 .f32 := V m c main_v19

/-- The array is what that buffer holds. -/
theorem inp_eq (c : Dev nD) : V m c main_v19 = inp m c := by unfold inp; rfl

/-- What each window holds after the body: the array, and `out`. -/
def afterOf (x : Vec F S16x5120 .f32) : (w : Fin (cfg0 (F := F)).W) → Fin (cfg0 (F := F)).N → ((cfg0 (F := F)).win w).block.Idx → Elt F ((cfg0 (F := F)).win w).elt
  | 0 => fun _ => x
  | 1 => fun _ => out x
  | ⟨_ + 2, h⟩ => absurd h (Nat.not_lt.2 (Nat.le_add_left _ _))

/-- The proof data of the pipeline, from the buffers `W` and the array `x`. -/
def datOf (c : Dev nD) (W : Valuation τ sig (Elt F)) (x : Vec F S16x5120 .f32) : Dat τ (Elt F) Unit ℕ (UR sig nD τ) ℕ (cfg0 (F := F)) c where
  A := fun w => W (Proc.devRef .tc (Pipeline.arrRef spec0 w))
  after := afterOf x
  Φ := fun _ => Pipeline.ΦA spec0 c
  q := fun _ => fullShare
  owed := fun _ => 0

/-- The proof data of the pipeline. -/
abbrev dat0 (c : Dev nD) : Dat τ (Elt F) Unit ℕ (UR sig nD τ) ℕ (cfg0 (F := F)) c := datOf c (V0 m c) (inp m c)

/-- The same, for the one pipeline of the program. -/
abbrev dats : (p : Fin 1) → (c : Dev nD) → Dat τ (Elt F) Unit ℕ (UR sig nD τ) ℕ (cfgs (F := F) p) c := fun _ c => dat0 m c

/-- The region's operations before the call allocate nothing. -/
theorem hostOps0_fresh : (hostOps0 : List (HloOp τ sig (Elt F))).Forall fun op => op.fresh = ∅ := by
  simp only [hostOps0, List.Forall]; repeat' constructor
/-- Nor do those after it. -/
theorem hostOps1_fresh : (hostOps1 : List (HloOp τ sig (Elt F))).Forall fun op => op.fresh = ∅ := by
  simp only [hostOps1, List.Forall]; repeat' constructor

set_option maxHeartbeats 1000000 in
/-- The program around the call. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The operations after the call stay within the pipeline's arrays and the buffers it does not touch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  subst hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- They write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl <;> intro w <;> fin_cases w <;>
    exact fun h => absurd (Finset.mem_singleton.mp h) (StableHlo.devRef_ne_of_ne (by decide))

/-- Reading the whole input window is reading the window. -/
theorem block_eq (arg0 : Memref sig .tc .vmem S16x5120 .f32) (X0 : BufTy.Contents (Elt F) arg0.view.ty) :
    blockOf arg0 X0 = arg0.view.read (Elt F) X0 :=
  View.readAt_full _ _ _
/-- The whole input window is moved. -/
theorem moved_0 (t : Fin grid0.N) (j : win0_0.block.Idx) : win0_0.moved (grid0.coords t) j = true := by
  rw [win0_0.moved_iff]
  intro a
  exact (j a).isLt

/-- Filling the input window from the whole array leaves the array. -/
theorem fetch_whole (A : Vec F S16x5120 .f32) (t : Fin (cfg0 (F := F)).N) (d : Vec F S16x5120 .f32) :
    win0_0.fill (grid0.coords t) d ((win0_0.blk t).view.read (Elt F) A) = A := by
  funext j
  unfold Pipeline.Window.fill
  rw [dif_pos (moved_0 t j)]
  rw [View.read_apply]
  blk_simp
  refine congrArg A (funext fun a => Fin.ext ?_)
  exact Pipeline.Window.rect_emb_val_of_index_zero win0_0 t a rfl _

/-- The input window's array is that buffer. -/
theorem arr_0 (W : Valuation τ sig (Elt F)) : W (Proc.devRef .tc (Pipeline.arrRef spec0 0)) = W (Proc.devRef .tc main_v19) := rfl

/-- The input window holds the array when the body begins. -/
theorem before_of (c : Dev nD) (W : Valuation τ sig (Elt F)) (t : Fin (cfg0 (F := F)).N) (d) :
    (datOf c W (W (Proc.devRef .tc main_v19))).before 0 t d = W (Proc.devRef .tc main_v19) := by
  unfold Dat.before
  rw [if_pos (fetch0_0 t)]
  exact fetch_whole (W (Proc.devRef .tc main_v19)) t d

/-- The same, at the buffers of the run. -/
theorem before_0 (c : Dev nD) (t : Fin (cfg0 (F := F)).N) (d) : (dat0 m c).before 0 t d = inp m c := by
  have h := before_of c (V0 m c) t d
  have e : V0 m c (Proc.devRef .tc main_v19) = inp m c := inp_eq m c
  rw [e] at h
  exact h

/-- The kernel's row of the table of bodies. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body at the pipeline's point. -/
theorem sound_body (c : Dev nD) (hrest : (kept (inp m c)).1 ≠ 1#1) (t : Fin (cfg0 (F := F)).N) :
    iprop((dat0 m c).Φ t.castSucc ∗ (dat0 m c).owesAt () t.castSucc
        ∗ (∃ d, owns (c : Thread nD τ) (st0_0 t) fullShare ((dat0 m c).before 0 t d)) ∗ (∃ d, owns (c : Thread nD τ) (st0_1 t) fullShare ((dat0 m c).before 1 t d)))
    ⊢ (wp frame (wpE (defs₀ (F := F)) Variants.nat (c : Thread nD τ) none) Set.univ (bodyAt0 t) fun _ =>
        iprop((dat0 m c).Φ t.succ ∗ (dat0 m c).owesAt () t.succ
          ∗ owns (c : Thread nD τ) (st0_0 t) fullShare (inp m c) ∗ owns (c : Thread nD τ) (st0_1 t) fullShare (out (inp m c))) : sProp 𝕄) := by
  rw [show (dat0 m c).Φ t.succ = Pipeline.ΦA spec0 c from rfl, show (dat0 m c).Φ t.castSucc = Pipeline.ΦA spec0 c from rfl,
    show (dat0 m c).owesAt () t.succ = (dat0 m c).owesAt () t.castSucc from rfl]
  unfold Pipeline.ΦA
  rw [scopedRest0_eq]
  simp only [before_0]
  unfold owns
  iintro ⟨⟨⟨⟨%g2, H2⟩, ⟨%g3, H3⟩⟩, Hr⟩, Ho, ⟨%d0, %f0, %e0, H0⟩, ⟨%d1, %f1, %e1, H1⟩⟩
  have hx : blockOf (st0_0 t) f0 = inp m c := by
    rw [← e0]; exact block_eq _ _
  have hb := body_run c (st0_0 t) (hstage0_0 0) (st0_1 t) (hstage0_1 0) (Memref.whole cc0_scratch0) (Memref.isWhole_whole _)
    (Memref.whole cc0_scratch1) (Memref.isWhole_whole _) f0 f1 g2 g3 (by rw [hx]; exact hrest)
  rw [hx] at hb
  simp only [Memref.view_whole, View.set_whole] at hb
  iapply (wp_wand_r _ _ _)
  isplitl [H0 H1 H2 H3]
  · iapply hb
    isplitl [H0]
    · iexact H0
    isplitl [H1]
    · iexact H1
    isplitl [H2]
    · iexact H2
    iexact H3
  iintro %_ ⟨H0, H1, H2, H3⟩
  isplitl [H2 H3 Hr]
  · isplitl [H2 H3]
    · isplitl [H2]
      · iexact H2
      iexact H3
    iexact Hr
  isplitl [Ho]
  · iexact Ho
  isplitl [H0]
  · iexists f0
    isplitr
    · ipureintro; exact e0
    iexact H0
  iexists ((st0_1 t).view.writes (Elt F) f1 [⟨outRect, out (inp m c)⟩])
  isplitr
  · ipureintro
    exact View.read_writes_full (st0_1 t).view f1 inb_S8x384_S8x384_0_0 (out (inp m c)) []
  iexact H1

/-- After the body the input window holds the array. -/
theorem after_0 (c : Dev nD) (t : Fin (cfg0 (F := F)).N) : (dat0 m c).after 0 t = inp m c := rfl
/-- After the body the output window holds `out`. -/
theorem after_1 (c : Dev nD) (t : Fin (cfg0 (F := F)).N) : (dat0 m c).after 1 t = out (inp m c) := rfl

/-- The library's body obligation. -/
theorem body_obligation (c : Dev nD) (hrest : (kept (inp m c)).1 ≠ 1#1) : BodyObligationLoose (dats (F := F) m 0 c) (defs₀ (F := F)) Variants.nat () Set.univ := fun t => by
  rw [bigSep_W0, bigSep_W0, defs₀_row, after_0, after_1]
  exact triple_restated (sound_body m c hrest t) rfl .rfl fun _ => .rfl

/-- Every array is held whole. -/
theorem share_eq (c : Dev nD) (w : Fin (cfg0 (F := F)).W) : (dat0 m c).share w = fullShare := by
  unfold Dat.share
  have hq : (dat0 m c).q w = fullShare := rfl
  rw [hq, ite_self]
/-- The arrays are the buffers when the call begins. -/
theorem A_eq (c : Dev nD) (w : Fin (cfg0 (F := F)).W) : (dat0 m c).A w = V0 m c (Proc.devRef .tc (Pipeline.arrRef spec0 w)) := by
  unfold dat0 datOf; rfl

/-- The launch, from any memory, ends with the body's result in the output array and every counter at zero. -/
theorem run_main (hrest : ∀ c, (kept (inp m c)).1 ≠ 1#1) :
    θ_run (defs (F := F)) (onTc (τ := τ) (main (F := F))) ⟨m, fun _ => 0, ρ⟩ (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.nat m ρ main
    (hbody := fun c => body_obligation m c (hrest c)) (hshare := share_eq m)
    (howed := fun _ _ => rfl) (V₀ := V0 m) (opss := [hostOps1]) (hsub := sfx_sub) (hfresh := sfx_fresh) (hkeep := sfx_keeps)
    (hmain := hmain m Variants.nat) (hA := A_eq m) (hΦ := fun _ _ => rfl) (Q' := fun r => Pipeline.FramePost cfgs (dats m) 0 (Pipeline.afterTail₀ cfgs (dats m) 0 (V0 m) [hostOps1]) r ∧ r.2.sem = fun _ => 0)

/-- The output window's block is its whole array. -/
theorem whole_1 : win0_1.WholeAt t0_0 := by decide +kernel

/-- The output array after the run. -/
theorem arr_out (c : Dev nD) : (dat0 m c).arrAt 1 (cfg0 (F := F)).N = out (inp m c) := by
  refine (dat0 m c).arrAt_eq_of_after_last 1 t0_0 whole_1 _ fun j => ?_
  show (dat0 m c).after 1 t0_0 (fun a => ⟨(j a).val, _⟩) = out (inp m c) j
  rfl
end Cert.KernelIdeal.Own
end
-- ==== Proof.KRun.lean ====
module
public import proofs.«01_k».proof.Proof.KLaunch
public import Idealize.ShloMosaic.Lib.StableHlo.RunRead
public import Idealize.ShloMosaic.Lib.StableHlo.ReadAt

/-!
# What the kernel program leaves

The three results as slices of the array `out` the kernel writes, and the arguments unchanged.
-/

@[expose] public section
set_option maxRecDepth 65536
noncomputable section
namespace Cert.KernelIdeal.Own
open Idealize.ShloMosaic Idealize.ShloMosaic.TcCoe Idealize.ShloMosaic.Tactic
open Idealize.SL.Sem
open Cert.KernelIdeal Cert.KernelIdeal.Gen
variable {F : FTy → Type} [FloatOps F]

/-- The boxes: the first four rows of the kernel's array, transposed. -/
def boxes (o : Vec F S8x384 .f32) : Vec F S300x4 .f32 :=
  transpose S300x4 [1, 0] (extractStridedSlice S4x300 ![0, 0] o slices_S8x384_S4x300_0_0) transposes_S4x300_S300x4_1_0
/-- The scores: its fifth row. -/
def scores (o : Vec F S8x384 .f32) : Vec F S300 .f32 :=
  shapeCast S300 (extractStridedSlice S1x300 ![4, 0] o slices_S8x384_S1x300_4_0) shapeCasts_S1x300_S300
/-- The classes: all one. -/
def classes : IVec S300 32 := broadcastInDim S300 ![] bcast_S_S300 (constantI S_ 32 1#32)

/-- The operations after the call, read at the boxes. -/
theorem tail_22 (W : Valuation τ sig (Elt F)) : StableHlo.after (List.flatten [hostOps1]) W (Proc.devRef .tc main_v22) = boxes (W (Proc.devRef .tc main_v20)) := by
  simp only [List.flatten_cons, List.flatten_nil, List.append_nil]
  after_reads_simp
  rfl
/-- The operations after the call, read at the scores. -/
theorem tail_24 (W : Valuation τ sig (Elt F)) : StableHlo.after (List.flatten [hostOps1]) W (Proc.devRef .tc main_v24) = scores (W (Proc.devRef .tc main_v20)) := by
  simp only [List.flatten_cons, List.flatten_nil, List.append_nil]
  after_reads_simp
  rfl
/-- The operations after the call, read at the classes. -/
theorem tail_25 (W : Valuation τ sig (Elt F)) : StableHlo.after (List.flatten [hostOps1]) W (Proc.devRef .tc main_v25) = classes := by
  simp only [List.flatten_cons, List.flatten_nil, List.append_nil]
  after_reads_simp
  rfl
/-- The operations before and after the call write no argument. -/
theorem keep_arg (b : Ref sig .tc) (hb : b = main_arg0 ∨ b = main_arg1 ∨ b = main_arg2 ∨ b = main_arg3) (W : Valuation τ sig (Elt F)) :
    StableHlo.after (List.flatten [hostOps1]) W (Proc.devRef .tc b) = W (Proc.devRef .tc b)
    ∧ StableHlo.after (List.flatten [hostOps0]) W (Proc.devRef .tc b) = W (Proc.devRef .tc b) := by
  simp only [List.flatten_cons, List.flatten_nil, List.append_nil]
  rcases hb with rfl | rfl | rfl | rfl <;> constructor <;> after_reads_simp

variable (m : (ℓ : Loc nD τ sig) → Buf (Elt F) ℓ) (ρ : Dev nD → PrngReg)

/-- An argument after the run. -/
theorem final_arg (c : Dev nD) (b : Ref sig .tc) (hb : b = main_arg0 ∨ b = main_arg1 ∨ b = main_arg2 ∨ b = main_arg3) (hne : ∀ w, Pipeline.arrRef spec0 w ≠ b) :
    Pipeline.afterTail₀ cfgs (dats m) 0 (V0 m) [hostOps1] c b = m ((c : Thread nD τ).loc b) := by
  unfold Pipeline.afterTail₀
  rw [(keep_arg b hb _).1]
  refine (Pipeline.withArrays_of_ne _ c (V0 m c) _ b hne).trans ?_
  exact (keep_arg b hb _).2

/-- The kernel's array as the operations after the call find it. -/
theorem final_20 (c : Dev nD) :
    Pipeline.withArrays spec0 c (V0 m c) (fun w => (dat0 m c).arrAt w (cfg0 (F := F)).N) (Proc.devRef .tc main_v20) = out (inp m c) :=
  (Pipeline.withArrays_arr spec0 winFacts0.arr_inj c (V0 m c) _ 1).trans (arr_out m c)

/-- The run: the three results, the arguments unchanged, the counters at zero. -/
theorem run_values (hrest : ∀ c, (kept (inp m c)).1 ≠ 1#1) :
    θ_run (defs (F := F)) (onTc (τ := τ) (main (F := F))) ⟨m, fun _ => 0, ρ⟩ (fun r => (∀ c : Dev nD,
      (r.2.mem ((c : Thread nD τ).loc main_v22) = boxes (out (inp m c))
      ∧ r.2.mem ((c : Thread nD τ).loc main_v24) = scores (out (inp m c))
      ∧ r.2.mem ((c : Thread nD τ).loc main_v25) = classes)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  refine (θ_run _ _ _).mono ?_ (run_main m ρ hrest)
  intro r h
  have hr := fun c b hb => (h.1 c).2 b hb
  refine ⟨fun c => ⟨⟨?_, ?_, ?_⟩, ?_, ?_, ?_, ?_⟩, h.2⟩
  · refine (hr c main_v22 (Pipeline.mem_restRefs_of main_v22 (by decide) (by decide : ∀ w : Fin 2, Pipeline.arrRef spec0 w ≠ main_v22))).trans ?_
    exact (tail_22 _).trans (congrArg boxes (final_20 m c))
  · refine (hr c main_v24 (Pipeline.mem_restRefs_of main_v24 (by decide) (by decide : ∀ w : Fin 2, Pipeline.arrRef spec0 w ≠ main_v24))).trans ?_
    exact (tail_24 _).trans (congrArg scores (final_20 m c))
  · refine (hr c main_v25 (Pipeline.mem_restRefs_of main_v25 (by decide) (by decide : ∀ w : Fin 2, Pipeline.arrRef spec0 w ≠ main_v25))).trans ?_
    exact tail_25 _
  · exact (hr c main_arg0 (Pipeline.mem_restRefs_of main_arg0 (by decide) (by decide : ∀ w : Fin 2, Pipeline.arrRef spec0 w ≠ main_arg0))).trans (final_arg m c main_arg0 (by simp) (by decide))
  · exact (hr c main_arg1 (Pipeline.mem_restRefs_of main_arg1 (by decide) (by decide : ∀ w : Fin 2, Pipeline.arrRef spec0 w ≠ main_arg1))).trans (final_arg m c main_arg1 (by simp) (by decide))
  · exact (hr c main_arg2 (Pipeline.mem_restRefs_of main_arg2 (by decide) (by decide : ∀ w : Fin 2, Pipeline.arrRef spec0 w ≠ main_arg2))).trans (final_arg m c main_arg2 (by simp) (by decide))
  · exact (hr c main_arg3 (Pipeline.mem_restRefs_of main_arg3 (by decide) (by decide : ∀ w : Fin 2, Pipeline.arrRef spec0 w ≠ main_arg3))).trans (final_arg m c main_arg3 (by simp) (by decide))
end Cert.KernelIdeal.Own
end
-- ==== Proof.Fix.lean ====
module

public import Idealize.ShloMosaic.Lib.Pointwise

/-!
# Greedy suppression as a fixpoint

`S i j` says that `i` suppresses `j`. Whenever suppression only goes down in a ranking, the row of keep marks that survives
one trip unchanged is unique, and repeated trips reach it.
-/

@[expose] public section
noncomputable section
namespace Cert.Nms

variable {n : ℕ} (valid : Fin n → Prop) (S : Fin n → Fin n → Prop)

/-- One trip: keep the valid ones that no kept one suppresses. -/
def step (K : Fin n → Prop) : Fin n → Prop := fun j => valid j ∧ ¬ ∃ i, K i ∧ S i j

/-- The marks after `t` trips. -/
def iter : ℕ → Fin n → Prop
  | 0 => valid
  | t + 1 => step valid S (iter t)

/-- The marks that the trips settle at. -/
def keep : Fin n → Prop := iter valid S n

variable {valid S}

/-- What has fewer than `t` before it no longer changes after `t` trips. -/
theorem iter_settled (r : Fin n → ℕ) (hr : ∀ i j, S i j → r i < r j) :
    ∀ t j, r j < t → (iter valid S t j ↔ iter valid S (t + 1) j) := by
  intro t
  induction t with
  | zero => intro j h; exact absurd h (Nat.not_lt_zero _)
  | succ t ih =>
    intro j h
    show (valid j ∧ ¬ ∃ i, iter valid S t i ∧ S i j) ↔ (valid j ∧ ¬ ∃ i, iter valid S (t + 1) i ∧ S i j)
    have : (∃ i, iter valid S t i ∧ S i j) ↔ (∃ i, iter valid S (t + 1) i ∧ S i j) := by
      constructor
      · rintro ⟨i, hi, hs⟩; exact ⟨i, (ih i (by have := hr i j hs; omega)).mp hi, hs⟩
      · rintro ⟨i, hi, hs⟩; exact ⟨i, (ih i (by have := hr i j hs; omega)).mpr hi, hs⟩
    rw [this]

/-- After `n` trips another one changes nothing. -/
theorem keep_fix (r : Fin n → ℕ) (hn : ∀ i, r i < n) (hr : ∀ i j, S i j → r i < r j) :
    step valid S (keep valid S) = keep valid S :=
  funext fun j => propext (iter_settled r hr n j (hn j)).symm

/-- The marks that a trip leaves unchanged are unique. -/
theorem fix_unique (r : Fin n → ℕ) (hr : ∀ i j, S i j → r i < r j) {K L : Fin n → Prop}
    (hK : ∀ j, K j ↔ step valid S K j) (hL : ∀ j, L j ↔ step valid S L j) : ∀ j, K j ↔ L j := by
  have : ∀ t j, r j < t → (K j ↔ L j) := by
    intro t
    induction t with
    | zero => intro j h; exact absurd h (Nat.not_lt_zero _)
    | succ t ih =>
      intro j h
      rw [hK, hL]
      have : (∃ i, K i ∧ S i j) ↔ (∃ i, L i ∧ S i j) := by
        constructor
        · rintro ⟨i, hi, hs⟩; exact ⟨i, (ih i (by have := hr i j hs; omega)).mp hi, hs⟩
        · rintro ⟨i, hi, hs⟩; exact ⟨i, (ih i (by have := hr i j hs; omega)).mpr hi, hs⟩
      unfold step; rw [this]
  exact fun j => this (r j + 1) j (Nat.lt_succ_self _)

/-- A row that a trip leaves unchanged stays the same from then on. -/
theorem iter_stable (t : ℕ) (h : iter valid S (t + 1) = iter valid S t) : ∀ u, iter valid S (t + u) = iter valid S t := by
  intro u
  induction u with
  | zero => rfl
  | succ u ih =>
    have : iter valid S (t + (u + 1)) = step valid S (iter valid S (t + u)) := rfl
    rw [this, ih]; exact h

/-- A row that a trip leaves unchanged is the settled one. -/
theorem iter_rest {t : ℕ} (ht : t ≤ n) (h : iter valid S (t + 1) = iter valid S t) : iter valid S t = keep valid S := by
  have := iter_stable t h (n - t)
  rw [Nat.add_sub_cancel' ht] at this
  exact this.symm

/-- The number of elements before `j` in a strict order. -/
def before (lt : Fin n → Fin n → Prop) (j : Fin n) : ℕ := by
  classical exact (Finset.univ.filter fun i => lt i j).card

/-- The number before an element is below the number of all. -/
theorem before_lt (lt : Fin n → Fin n → Prop) (irr : ∀ i, ¬ lt i i) (j : Fin n) : before lt j < n := by
  classical
  unfold before
  have : (Finset.univ.filter fun i => lt i j) ⊂ Finset.univ := by
    refine Finset.ssubset_univ_iff.mpr fun h => irr j ?_
    have := Finset.mem_univ j
    rw [← h] at this
    exact (Finset.mem_filter.mp this).2
  simpa using Finset.card_lt_card this

/-- It grows along the order. -/
theorem before_mono (lt : Fin n → Fin n → Prop) (irr : ∀ i, ¬ lt i i) (tr : ∀ i j k, lt i j → lt j k → lt i k)
    (i j : Fin n) (h : lt i j) : before lt i < before lt j := by
  classical
  unfold before
  refine Finset.card_lt_card ?_
  rw [Finset.ssubset_iff_of_subset]
  · exact ⟨i, by simp [h], by simp [irr i]⟩
  · intro k hk
    simp only [Finset.mem_filter, Finset.mem_univ, true_and] at hk ⊢
    exact tr _ _ _ hk h

/-! ## Marks packed in words -/

/-- Sixteen marks as a number. -/
def pack (p : ℕ → Prop) [DecidablePred p] : ℕ → ℕ
  | 0 => 0
  | b + 1 => pack p b + if p b then 2 ^ b else 0

/-- A word of packed marks stays below its power of two. -/
theorem pack_lt (p : ℕ → Prop) [DecidablePred p] : ∀ b, pack p b < 2 ^ b
  | 0 => by simp [pack]
  | b + 1 => by
    have := pack_lt p b
    rw [pack, pow_succ]
    split <;> omega

/-- Bit `b` of the packed number is mark `b`. -/
theorem testBit_pack (p : ℕ → Prop) [DecidablePred p] : ∀ n b, b < n → (pack p n).testBit b = decide (p b)
  | 0, b, h => absurd h (Nat.not_lt_zero _)
  | n + 1, b, h => by
    have hl := pack_lt p n
    rw [pack]
    by_cases hp : p n
    · rw [if_pos hp, Nat.add_comm]
      rcases Nat.lt_succ_iff_lt_or_eq.mp h with hb | hb
      · rw [Nat.testBit_two_pow_add_gt hb, testBit_pack p n b hb]
      · subst hb
        rw [Nat.testBit_two_pow_add_eq, Nat.testBit_lt_two_pow hl]; simp [hp]
    · rw [if_neg hp, Nat.add_zero]
      rcases Nat.lt_succ_iff_lt_or_eq.mp h with hb | hb
      · exact testBit_pack p n b hb
      · subst hb
        rw [Nat.testBit_lt_two_pow hl]; simp [hp]

/-- Two packed numbers share a bit exactly when some mark is in both. -/
theorem pack_and (p q : ℕ → Prop) [DecidablePred p] [DecidablePred q] (n : ℕ) :
    0 < (pack p n &&& pack q n) ↔ ∃ b, b < n ∧ p b ∧ q b := by
  constructor
  · intro h
    obtain ⟨b, hb⟩ := Nat.exists_testBit_of_ne_zero (Nat.pos_iff_ne_zero.mp h)
    rw [Nat.testBit_and, Bool.and_eq_true] at hb
    have hbn : b < n := by
      by_contra hc
      have := Nat.testBit_lt_two_pow (lt_of_lt_of_le (pack_lt p n) (Nat.pow_le_pow_right (by norm_num) (not_lt.mp hc)))
      rw [this] at hb; exact absurd hb.1 (by simp)
    rw [testBit_pack p n b hbn, testBit_pack q n b hbn] at hb
    exact ⟨b, hbn, by simpa using hb.1, by simpa using hb.2⟩
  · rintro ⟨b, hb, h1, h2⟩
    refine Nat.pos_iff_ne_zero.mpr fun h => ?_
    have := congrArg (fun x => x.testBit b) h
    simp only [Nat.testBit_and, testBit_pack p n b hb, testBit_pack q n b hb, h1, h2, decide_true, Bool.and_self, Nat.zero_testBit] at this
    exact absurd this (by simp)

/-- A sum of powers over one word's sixteen places is the packed number. -/
theorem sum_pack {m : ℕ} (p : Fin m → Prop) [DecidablePred p] (w : ℕ) (hw : 16 * w + 16 ≤ m) :
    (∑ i : Fin m, (if i.val / 16 = w then 2 ^ (i.val % 16) else 0) * (if p i then 1 else 0))
      = pack (fun b => ∃ h : 16 * w + b < m, p ⟨16 * w + b, h⟩) 16 := by
  have key : ∀ k, k ≤ 16 → (∑ i : Fin m, if 16 * w ≤ i.val ∧ i.val < 16 * w + k then 2 ^ (i.val % 16) * (if p i then 1 else 0) else 0)
      = pack (fun b => ∃ h : 16 * w + b < m, p ⟨16 * w + b, h⟩) k := by
    intro k
    induction k with
    | zero =>
      intro _
      rw [pack]
      refine Finset.sum_eq_zero fun i _ => if_neg ?_
      omega
    | succ k ih =>
      intro hk
      rw [pack, ← ih (by omega)]
      have hlt : 16 * w + k < m := by omega
      have hval : (if (∃ h : 16 * w + k < m, p ⟨16 * w + k, h⟩) then 2 ^ k else 0)
          = ∑ i : Fin m, if i = ⟨16 * w + k, hlt⟩ then 2 ^ (i.val % 16) * (if p i then 1 else 0) else 0 := by
        rw [Finset.sum_ite_eq' Finset.univ (⟨16 * w + k, hlt⟩ : Fin m)]
        have : (16 * w + k) % 16 = k := by omega
        simp only [Finset.mem_univ, if_true, this]
        by_cases hp : p ⟨16 * w + k, hlt⟩
        · rw [if_pos ⟨hlt, hp⟩, if_pos hp, Nat.mul_one]
        · rw [if_neg (fun ⟨_, h⟩ => hp h), if_neg hp, Nat.mul_zero]
      rw [hval, ← Finset.sum_add_distrib]
      refine Finset.sum_congr rfl fun i _ => ?_
      by_cases h1 : i = ⟨16 * w + k, hlt⟩
      · have hv : i.val = 16 * w + k := by rw [h1]
        have c1 : 16 * w ≤ i.val ∧ i.val < 16 * w + (k + 1) := by omega
        have c2 : ¬ (16 * w ≤ i.val ∧ i.val < 16 * w + k) := by omega
        rw [if_pos c1, if_neg c2, if_pos h1, Nat.zero_add]
      · have h2 : i.val ≠ 16 * w + k := fun h => h1 (Fin.ext h)
        by_cases h3 : 16 * w ≤ i.val ∧ i.val < 16 * w + k
        · have c1 : 16 * w ≤ i.val ∧ i.val < 16 * w + (k + 1) := by omega
          simp only [c1, h3, h1, if_true, if_false, Nat.add_zero, and_self]
        · have c1 : ¬ (16 * w ≤ i.val ∧ i.val < 16 * w + (k + 1)) := by omega
          simp only [c1, h3, h1, if_false, Nat.add_zero]
  rw [← key 16 le_rfl]
  refine Finset.sum_congr rfl fun i _ => ?_
  by_cases h : i.val / 16 = w
  · have c1 : 16 * w ≤ i.val ∧ i.val < 16 * w + 16 := by omega
    simp only [h, c1, if_true, and_self]
  · have c1 : ¬ (16 * w ≤ i.val ∧ i.val < 16 * w + 16) := by omega
    simp only [h, c1, if_false, Nat.zero_mul]

end Cert.Nms
end
-- ==== Proof.KBits.lean ====
module

public import proofs.«01_k».proof.Proof.KChain
public import proofs.«01_k».proof.Proof.Fix

/-!
# The fixpoint loop's arithmetic, over the extended reals

Sixteen marks are packed in a word by a product with powers of two; two words meet exactly when some box is marked in both.
-/

@[expose] public section
set_option maxRecDepth 65536
noncomputable section
namespace Cert.KernelIdeal.Own
open Idealize.ShloMosaic Idealize.ShloMosaic.TcCoe
open Cert.KernelIdeal Cert.KernelIdeal.Gen Cert.Nms

/-- The word that box `i` belongs to. -/
theorem word_no : ∀ i : Fin 5120, Scalar.select
          (IntOp.andi
            (IntOp.cmpi CmpIPredicate.ne
              (IntOp.subi (BitVec.setWidth 32 (IntOp.cmpi CmpIPredicate.sgt (BitVec.ofNat 32 i.val) 0#32))
                (BitVec.setWidth 32 (IntOp.cmpi CmpIPredicate.slt (BitVec.ofNat 32 i.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 i.val) 16#32) 0#32))
          (IntOp.subi (IntOp.divsi ArithUnit.vector (BitVec.ofNat 32 i.val) 16#32) 1#32)
          (IntOp.divsi ArithUnit.vector (BitVec.ofNat 32 i.val) 16#32) = BitVec.ofNat 32 (i.val / 16) := by
  decide +kernel

/-- The power of two of its place in the word. -/
theorem word_bit : ∀ i : Fin 5120, IntOp.shli ArithUnit.vector (1#32)
          (Scalar.select
            (IntOp.andi
              (IntOp.xori
                (IntOp.cmpi CmpIPredicate.slt
                  (IntOp.remsi ArithUnit.vector (BitVec.ofNat 32 i.val)
                    (Scalar.select (Scalar.cmpi CmpIPredicate.eq 16#32 0#32) 1#32 16#32))
                  0#32)
                (Scalar.cmpi CmpIPredicate.slt 16#32 0#32))
              (IntOp.cmpi CmpIPredicate.ne
                (IntOp.remsi ArithUnit.vector (BitVec.ofNat 32 i.val)
                  (Scalar.select (Scalar.cmpi CmpIPredicate.eq 16#32 0#32) 1#32 16#32))
                0#32))
            (IntOp.addi
              (IntOp.remsi ArithUnit.vector (BitVec.ofNat 32 i.val)
                (Scalar.select (Scalar.cmpi CmpIPredicate.eq 16#32 0#32) 1#32 16#32))
              16#32)
            (IntOp.remsi ArithUnit.vector (BitVec.ofNat 32 i.val)
              (Scalar.select (Scalar.cmpi CmpIPredicate.eq 16#32 0#32) 1#32 16#32)))
      = BitVec.ofNat 32 (2 ^ (i.val % 16)) := by
  decide +kernel

/-- A word's number is below 2^16. -/
theorem two_pow_mod_lt (i : ℕ) : 2 ^ (i % 16) < 65536 :=
  lt_of_lt_of_eq (Nat.pow_lt_pow_right (by norm_num) (Nat.mod_lt i (by norm_num : 0 < 16))) (by norm_num)

/-- A small number's word, read with a sign. -/
theorem toInt_ofNat_small (a : ℕ) (h : a < 65536) : (BitVec.ofNat 32 a).toInt = (a : ℤ) := by
  have hn : (BitVec.ofNat 32 a).toNat = a := by rw [BitVec.toNat_ofNat]; exact Nat.mod_eq_of_lt (by omega)
  rw [BitVec.toInt_eq_toNat_of_lt (by rw [hn]; omega), hn]

/-- A small number read from a word. -/
theorem sitofp_ofNat (a : ℕ) (h : a < 65536) : FloatOps.sitofp (F := Ideal) .f32 (BitVec.ofNat 32 a) = ((a : ℕ) : EReal) := by
  show (((BitVec.ofNat 32 a).toInt : ℝ) : EReal) = _
  rw [toInt_ofNat_small a h]; simp

/-- A small number turned into a word. -/
theorem fptosi_natCast (a : ℕ) (h : a < 65536) : FloatOps.fptosi (F := Ideal) (φ := .f32) 32 ((a : ℕ) : EReal) = BitVec.ofNat 32 a := by
  show BitVec.ofInt 32 (Ideal.toIntClamped _ _ ((a : ℕ) : EReal)) = _
  have : ((a : ℕ) : EReal) = (((a : ℕ) : ℝ) : EReal) := by simp
  rw [this, Ideal.toIntClamped_coe, if_pos (Nat.cast_nonneg a)]
  have h2 : max (-((2 ^ (32 - 1) : ℕ) : ℤ)) (min (((2 ^ (32 - 1) : ℕ) : ℤ) - 1) ⌊((a : ℕ) : ℝ)⌋) = (a : ℤ) := by
    rw [Int.floor_natCast]
    norm_num
    omega
  rw [h2, BitVec.ofInt_natCast]

/-- The packing matrix. -/
theorem qpow_at (i : Fin 5120) (w : Fin 320) :
    qpow (F := Ideal) (ix2 i w) = if i.val / 16 = w.val then ((2 ^ (i.val % 16) : ℕ) : EReal) else 0 := by
  unfold qpow
  pointwise [k0_pay54, k0_pay50, k0_pay51, k0_pay52, k0_pay53]
  rw [word_no, word_bit, sitofp_ofNat _ (two_pow_mod_lt _)]
  have hb : IntOp.cmpi CmpIPredicate.eq (BitVec.ofNat 32 (i.val / 16)) (BitVec.ofNat 32 w.val)
      = BitVec.ofBool (decide (i.val / 16 = w.val)) := by
    have h1 := i.isLt
    have h2 := w.isLt
    have : BitVec.ofNat 32 (i.val / 16) = BitVec.ofNat 32 w.val ↔ i.val / 16 = w.val := by
      constructor
      · intro h
        have := congrArg BitVec.toNat h
        simp only [BitVec.toNat_ofNat] at this
        omega
      · intro h; rw [h]
    show BitVec.ofBool (BitVec.ofNat 32 (i.val / 16) == BitVec.ofNat 32 w.val) = _
    congr 1
    rw [Bool.beq_eq_decide_eq]
    exact decide_eq_decide.mpr this
  rw [hb]
  by_cases h : i.val / 16 = w.val
  · simp [h, Scalar.select]
  · simp [h, Scalar.select]

open scoped Classical

/-- The marks of a set of boxes. -/
def mark (K : Fin 5120 → Prop) : FVec Ideal S1x5120 .f32 := fun j => if K (j 1) then (1 : EReal) else 0

/-- Word `w` of a set of boxes. -/
def wordOf (K : Fin 5120 → Prop) (w : ℕ) : ℕ := pack (fun b => ∃ h : 16 * w + b < 5120, K ⟨16 * w + b, h⟩) 16

/-- A word of sixteen marks is below 65536. -/
theorem wordOf_lt (K : Fin 5120 → Prop) (w : ℕ) : wordOf K w < 65536 := pack_lt _ 16

/-- The packed word of a set's marks. -/
theorem pack_word (K : Fin 5120 → Prop) (w : Fin 320) :
    FloatOps.fptosi (F := Ideal) (φ := .f32) 32 (∑ i : Fin 5120, qpow (F := Ideal) (ix2 i w) * (if K i then (1 : EReal) else 0))
      = BitVec.ofNat 32 (wordOf K w.val) := by
  rw [← fptosi_natCast _ (wordOf_lt K w.val)]
  congr 1
  have h := sum_pack (m := 5120) K w.val (by have := w.isLt; omega)
  unfold wordOf
  rw [← h, Nat.cast_sum]
  refine Finset.sum_congr rfl fun i _ => ?_
  rw [qpow_at]
  by_cases h1 : i.val / 16 = w.val <;> by_cases h2 : K i <;> simp [h1, h2]

/-- Some word of two sets meets exactly when the sets do. -/
theorem words_meet (K L : Fin 5120 → Prop) :
    (∃ w : Fin 320, 0 < (wordOf K w.val &&& wordOf L w.val)) ↔ ∃ i, K i ∧ L i := by
  unfold wordOf
  constructor
  · rintro ⟨w, h⟩
    obtain ⟨b, _, ⟨h1, h2⟩, ⟨_, h3⟩⟩ := (pack_and _ _ _).mp h
    exact ⟨_, h2, h3⟩
  · rintro ⟨i, h1, h2⟩
    have hi := i.isLt
    refine ⟨⟨i.val / 16, by omega⟩, (pack_and _ _ _).mpr ⟨i.val % 16, Nat.mod_lt _ (by norm_num), ?_, ?_⟩⟩
    · have e : 16 * (i.val / 16) + i.val % 16 = i.val := Nat.div_add_mod _ _
      exact ⟨by rw [e]; exact hi, by simpa only [e] using h1⟩
    · have e : 16 * (i.val / 16) + i.val % 16 = i.val := Nat.div_add_mod _ _
      exact ⟨by rw [e]; exact hi, by simpa only [e] using h2⟩

/-- The signed maximum of words is positive exactly when one of them is. -/
theorem fold_maxsi_pos {n : ℕ} (f : Fin n → BitVec 32) :
    IntOp.cmpi CmpIPredicate.sgt (Finset.fold IntOp.maxsi (2147483648#32) f Finset.univ) 0#32
      = BitVec.ofBool (decide (∃ x, 0 < (f x).toInt)) := by
  have key : ∀ s : Finset (Fin n), 0 < (Finset.fold IntOp.maxsi (2147483648#32) f s).toInt ↔ ∃ x ∈ s, 0 < (f x).toInt := by
    intro s
    induction s using Finset.induction_on with
    | empty =>
      rw [Finset.fold_empty]
      simp
    | insert a s ha ih =>
      rw [Finset.fold_insert ha]
      have hm : ∀ a b : BitVec 32, 0 < (IntOp.maxsi a b).toInt ↔ 0 < a.toInt ∨ 0 < b.toInt := by
        intro a b
        unfold IntOp.maxsi
        split <;> rename_i hh <;> simp [BitVec.slt, BitVec.sle] at hh <;> omega
      rw [hm, ih]
      simp
  show BitVec.ofBool (BitVec.slt 0#32 _) = _
  congr 1
  rw [BitVec.slt]
  refine decide_eq_decide.mpr ?_
  have := key Finset.univ
  simpa using this

end Cert.KernelIdeal.Own
end
-- ==== Proof.KTable.lean ====
module

public import proofs.«01_k».proof.Proof.KBits

/-!
# The table of words holds the suppression relation

Columns are rows transposed (a product with the unit matrix), and word `w` of lane `j` packs which of sixteen boxes suppress
box `j`: those of higher rank that overlap it by more than the threshold.
-/

@[expose] public section
set_option maxRecDepth 65536
noncomputable section
namespace Cert.KernelIdeal.Own
open Idealize.ShloMosaic Idealize.ShloMosaic.TcCoe
open Cert.KernelIdeal Cert.KernelIdeal.Gen Cert.Nms

/-- The unit matrix's entries in use. -/
theorem unit_entry (c : BitVec 32) (i : Fin 8) : FloatOps.sitofp (F := Ideal) .f32
    (BitVec.setWidth 32 (IntOp.cmpi CmpIPredicate.eq (IntOp.addi (BitVec.ofNat 32 i.val) 0#32) c))
      = if BitVec.ofNat 32 i.val = c then (1 : EReal) else 0 := by
  have hadd : IntOp.addi (BitVec.ofNat 32 i.val) 0#32 = BitVec.ofNat 32 i.val := BitVec.add_zero _
  rw [hadd]
  by_cases h : BitVec.ofNat 32 i.val = c
  · rw [if_pos h]
    have : IntOp.cmpi CmpIPredicate.eq (BitVec.ofNat 32 i.val) c = 1#1 := by
      show BitVec.ofBool (BitVec.ofNat 32 i.val == c) = 1#1
      rw [h]; simp
    rw [this]
    exact (sitofp_ofNat 1 (by norm_num)).trans (by simp)
  · rw [if_neg h]
    have : IntOp.cmpi CmpIPredicate.eq (BitVec.ofNat 32 i.val) c = 0#1 := by
      show BitVec.ofBool (BitVec.ofNat 32 i.val == c) = 0#1
      rw [beq_eq_false_iff_ne.mpr h]; rfl
    rw [this]
    exact (sitofp_ofNat 0 (by norm_num)).trans (by simp)

section
variable (a b c d e f g h : FVec Ideal S1x5120 .f32) (i : IVec S1x5120 32) (j : IVec S1x5120 1) (t : Ideal .f32) (k : Fin 5120)

/-- This column is its row transposed. -/
theorem pay36_at : k0_pay36 a b c d e f g h i j t (ix2 k 0) = a (ix2 0 k) := by
  pointwise [k0_pay36, k0_pay35]
  simp only [unit_entry, Fin.sum_univ_eight]
  simp
/-- This column is its row transposed. -/
theorem pay37_at : k0_pay37 a b c d e f g h i j t (ix2 k 0) = b (ix2 0 k) := by
  pointwise [k0_pay37, k0_pay35]
  simp only [unit_entry, Fin.sum_univ_eight]
  simp
/-- This column is its row transposed. -/
theorem pay38_at : k0_pay38 a b c d e f g h i j t (ix2 k 0) = c (ix2 0 k) := by
  pointwise [k0_pay38, k0_pay35]
  simp only [unit_entry, Fin.sum_univ_eight]
  simp
/-- This column is its row transposed. -/
theorem pay39_at : k0_pay39 a b c d e f g h i j t (ix2 k 0) = d (ix2 0 k) := by
  pointwise [k0_pay39, k0_pay35]
  simp only [unit_entry, Fin.sum_univ_eight]
  simp
/-- This column is its row transposed. -/
theorem pay40_at : k0_pay40 a b c d e f g h i j t (ix2 k 0) = k0_pay33 e f (ix2 0 k) := by
  pointwise [k0_pay40, k0_pay35]
  simp only [unit_entry, Fin.sum_univ_eight]
  simp
/-- This column is its row transposed. -/
theorem pay41_at : k0_pay41 a b c d e f g h i j t (ix2 k 0) = k0_pay32 g h i j t (ix2 0 k) := by
  pointwise [k0_pay41, k0_pay35]
  simp only [unit_entry, Fin.sum_univ_eight]
  simp
/-- This column is its row transposed. -/
theorem pay42_at : k0_pay42 a b c d e f g h i j t (ix2 k 0) = h (ix2 0 k) := by
  pointwise [k0_pay42, k0_pay35]
  simp only [unit_entry, Fin.sum_univ_eight]
  simp
end

/-- A lane's number, from its tile and place. -/
theorem lane_no : ∀ j : Fin 5120, IntOp.addi (BitVec.ofNat 32 (j.val % 128)) (Scalar.muli (Scf.iv 0#32 1#32 (j.val / 128)) 128#32)
    = BitVec.ofNat 32 j.val := by
  decide +kernel

/-- Comparing numbers is comparing their words. -/
theorem slt_ofNat (a b : ℕ) (ha : a < 65536) (hb : b < 65536) :
    IntOp.cmpi CmpIPredicate.slt (BitVec.ofNat 32 a) (BitVec.ofNat 32 b) = BitVec.ofBool (decide (a < b)) := by
  show BitVec.ofBool (BitVec.slt _ _) = _
  rw [BitVec.slt, toInt_ofNat_small a ha, toInt_ofNat_small b hb]
  congr 1
  exact decide_eq_decide.mpr (by omega)

/-- A truth value as a number. -/
theorem sitofp_ofBool (p : Bool) : FloatOps.sitofp (F := Ideal) .f32 (BitVec.setWidth 32 (BitVec.ofBool p))
    = if p = true then (1 : EReal) else 0 := by
  cases p
  · exact (sitofp_ofNat 0 (by norm_num)).trans (by simp)
  · exact (sitofp_ofNat 1 (by norm_num)).trans (by simp)

/-- The conjunction of two bits of conditions. -/
theorem andi_ofBool (p q : Bool) : IntOp.andi (BitVec.ofBool p) (BitVec.ofBool q) = BitVec.ofBool (p && q) := by
  cases p <;> cases q <;> rfl
/-- The disjunction of two bits of conditions. -/
theorem ori_ofBool (p q : Bool) : IntOp.ori (BitVec.ofBool p) (BitVec.ofBool q) = BitVec.ofBool (p || q) := by
  cases p <;> cases q <;> rfl

variable (x : Vec Ideal S16x5120 .f32)

/-- `i` comes before `j`: a higher masked score, or the same and a smaller number. -/
def prec (i j : Fin 5120) : Prop :=
  rSm x (ix2 0 j) < rSm x (ix2 0 i) ∨ (rSm x (ix2 0 i) = rSm x (ix2 0 j) ∧ i.val < j.val)

/-- `i` and `j` overlap by more than the threshold. -/
def overl (i j : Fin 5120) : Prop :=
  (rArea x (ix2 0 i) * Ideal.ofBits .f32 0x3F000000#32 + Ideal.ofBits .f32 0x3009705F#32)
      + Ideal.ofBits .f32 0x3F000000#32 * rArea x (ix2 0 j)
    < Ideal.ofBits .f32 0x3FC00000#32 *
      (max (min (rX2 x (ix2 0 i)) (rX2 x (ix2 0 j)) - max (rX1 x (ix2 0 i)) (rX1 x (ix2 0 j))) 0 *
        max (min (rY2 x (ix2 0 i)) (rY2 x (ix2 0 j)) - max (rY1 x (ix2 0 i)) (rY1 x (ix2 0 j))) 0)

/-- `i` suppresses `j`. -/
def supp (i j : Fin 5120) : Prop := overl x i j ∧ prec x i j

/-- The column of halved areas, read at a lane. -/
theorem half_at (i : Fin 5120) : cHalf x (ix2 i 0)
    = rArea x (ix2 0 i) * Ideal.ofBits .f32 0x3F000000#32 + Ideal.ofBits .f32 0x3009705F#32 := by
  unfold cHalf
  pointwise [k0_pay49, cArea]
  rw [pay40_at]
  rfl

open scoped Classical

/-- Lane `j` of its own tile. -/
theorem lanes_own (v : FVec Ideal S1x5120 .f32) (j : Fin 5120) :
    lanes v (tileNo j).val (ix2 0 ⟨j.val % 128, Nat.mod_lt _ (by norm_num)⟩) = v (ix2 0 j) := by
  unfold lanes tileNo
  have h : (⟨(128 * (j.val / 128) + j.val % 128) % 5120, Nat.mod_lt _ (by norm_num)⟩ : Fin 5120) = j := by
    ext
    show (128 * (j.val / 128) + j.val % 128) % 5120 = j.val
    have := j.isLt
    omega
  exact congrArg (fun z => v (ix2 0 z)) h

/-- The table's word `w` at lane `j`. -/
theorem table_at (w : Fin 320) (j : Fin 5120) :
    table x (ix2 w j) = BitVec.ofNat 32 (wordOf (fun i => supp x i j) w.val) := by
  rw [← pack_word]
  show tile x (tileNo j) (ix2 w ⟨j.val % 128, Nat.mod_lt _ (by norm_num)⟩) = _
  unfold tile
  have hq : k0_pay54 (F := Ideal) k0_pay50 k0_pay51 16#32 k0_pay52 k0_pay53 = qpow := rfl
  unfold k0_pay55
  rw [hq]
  pointwise [k0_pay5, k0_pay6, k0_pay7, k0_pay4, cIdx, tIdx]
  congr 1
  refine Finset.sum_congr rfl fun i _ => ?_
  congr 1
  rw [half_at, lanes_own, lanes_own, lanes_own, lanes_own, lanes_own, lanes_own]
  have hl : IntOp.addi (BitVec.ofNat 32 (j.val % 128)) (Scalar.muli (Scf.iv 0#32 1#32 (tileNo j).val) 128#32)
    = BitVec.ofNat 32 j.val := lane_no j
  rw [hl, slt_ofNat _ _ (by have := i.isLt; omega) (by have := j.isLt; omega)]
  unfold cX1 cX2 cY1 cY2 cSm
  rw [pay36_at, pay37_at, pay38_at, pay39_at, pay41_at]
  rw [andi_ofBool, ori_ofBool, andi_ofBool, sitofp_ofBool]
  refine if_congr ?_ rfl rfl
  simp only [Bool.and_eq_true, Bool.or_eq_true, decide_eq_true_eq]
  rfl

end Cert.KernelIdeal.Own
end
-- ==== Proof.KStep.lean ====
module

public import proofs.«01_k».proof.Proof.KTable

/-!
# One trip of the fixpoint loop, at a lane
-/

@[expose] public section
set_option maxRecDepth 65536
noncomputable section
namespace Cert.KernelIdeal.Own
open Idealize.ShloMosaic Idealize.ShloMosaic.TcCoe
open Cert.KernelIdeal Cert.KernelIdeal.Gen Cert.Nms

/-- The next row at lane `j`: zero when some word meets the kept ones', else the valid mark. -/
theorem pay2_at (q : FVec Ideal S5120x320 .f32) (v k : FVec Ideal S1x5120 .f32) (M : Vec Ideal S320x5120 .i32) (j : Fin 5120) :
    k0_pay2 q v k M (ix2 0 j) = Scalar.select
      (IntOp.cmpi CmpIPredicate.sgt
        (Finset.fold IntOp.maxsi (2147483648#32)
          (fun x : Fin 320 => IntOp.andi (M (ix2 x j)) (FloatOps.fptosi (F := Ideal) (φ := .f32) 32 (∑ i : Fin 5120, q (ix2 i x) * k (ix2 0 i)))) Finset.univ)
        0#32)
      (0 : EReal) (v (ix2 0 j)) := by
  pointwise [k0_pay2]

/-- The sum of the changes. -/
theorem pay3_eq (q : FVec Ideal S5120x320 .f32) (v k : FVec Ideal S1x5120 .f32) (M : Vec Ideal S320x5120 .i32) :
    k0_pay3 q v k M = ∑ j : Fin 5120, (FloatOps.absf (F := Ideal) (φ := .f32) (k0_pay2 q v k M (ix2 0 j) - k (ix2 0 j)) : EReal) := by
  unfold k0_pay3
  generalize k0_pay2 q v k M = u
  pointwise
  simp

end Cert.KernelIdeal.Own
end
-- ==== Proof.KRest.lean ====
module

public import proofs.«01_k».proof.Proof.KStep

/-!
# The fixpoint loop comes to rest

A trip of the loop is a step of greedy suppression; suppression goes down in a strict order, so at most 5120 steps change
anything, and the loop ends at the one row of marks that a step leaves as it is.
-/

@[expose] public section
set_option maxRecDepth 65536
noncomputable section
namespace Cert.KernelIdeal.Own
open Idealize.ShloMosaic Idealize.ShloMosaic.TcCoe
open Cert.KernelIdeal Cert.KernelIdeal.Gen Cert.Nms
open scoped Classical

/-- A row of marks, read at a lane. -/
theorem mark_at (K : Fin 5120 → Prop) (j : Fin 5120) : mark K (ix2 0 j) = if K j then (1 : EReal) else 0 := rfl

/-- Marks that make the same row are the same. -/
theorem mark_inj {K L : Fin 5120 → Prop} (h : mark K = mark L) : K = L := by
  funext j
  have := congrFun h (ix2 0 j)
  rw [mark_at, mark_at] at this
  by_cases hk : K j <;> by_cases hl : L j <;> simp [hk, hl] at this ⊢

/-- Rows are equal when they are at every lane. -/
theorem row_ext {u v : FVec Ideal S1x5120 .f32} (h : ∀ j : Fin 5120, u (ix2 0 j) = v (ix2 0 j)) : u = v := by
  funext j
  rw [eq_ix2 j]
  have : j 0 = (0 : Fin 1) := Subsingleton.elim (α := Fin 1) _ _
  rw [this]
  exact h (j 1)

variable (x : Vec Ideal S16x5120 .f32)

/-- The valid boxes. -/
def okBox (j : Fin 5120) : Prop := rValid x (ix2 0 j) = 1#1

/-- The row the loop starts with marks the valid lanes. -/
theorem rMark_eq : rMark x = mark (okBox x) := by
  refine row_ext fun j => ?_
  unfold rMark
  pointwise [k0_pay56]
  rw [mark_at]
  unfold okBox
  have h : rValid x (ix2 0 j) = 0#1 ∨ rValid x (ix2 0 j) = 1#1 := by
    generalize rValid x (ix2 0 j) = b
    revert b; decide
  rcases h with h | h
  · rw [h, if_neg (by decide)]
    exact (sitofp_ofNat 0 (by norm_num)).trans (by simp)
  · rw [h, if_pos rfl]
    exact (sitofp_ofNat 1 (by norm_num)).trans (by simp)

/-- A trip is a step of suppression. -/
theorem pay2_mark (V K : Fin 5120 → Prop) : k0_pay2 (qpow (F := Ideal)) (mark V) (mark K) (table x) = mark (step V (supp x) K) := by
  refine row_ext fun j => ?_
  rw [pay2_at]
  simp only [mark_at, pack_word, table_at]
  rw [fold_maxsi_pos]
  have hand : ∀ w : Fin 320, 0 < (IntOp.andi (BitVec.ofNat 32 (wordOf (fun i => supp x i j) w.val)) (BitVec.ofNat 32 (wordOf K w.val))).toInt
      ↔ 0 < (wordOf (fun i => supp x i j) w.val &&& wordOf K w.val) := by
    intro w
    have h1 : IntOp.andi (BitVec.ofNat 32 (wordOf (fun i => supp x i j) w.val)) (BitVec.ofNat 32 (wordOf K w.val))
        = BitVec.ofNat 32 (wordOf (fun i => supp x i j) w.val &&& wordOf K w.val) := by
      show BitVec.ofNat 32 _ &&& BitVec.ofNat 32 _ = _
      rw [BitVec.ofNat_and]
    have h2 : wordOf (fun i => supp x i j) w.val &&& wordOf K w.val < 65536 := lt_of_le_of_lt Nat.and_le_left (wordOf_lt _ _)
    rw [h1, toInt_ofNat_small _ h2]
    omega
  simp only [hand, words_meet]
  have hs : step V (supp x) K j ↔ V j ∧ ¬ ∃ i, supp x i j ∧ K i := by
    unfold step
    simp only [and_comm]
  rw [if_congr hs rfl rfl]
  by_cases h : ∃ i, supp x i j ∧ K i
  · simp [h, Scalar.select]
  · simp [h, Scalar.select]

/-- The flag is down exactly when the trip changed nothing. -/
theorem flag_mark (V K : Fin 5120 → Prop) :
    flag (qpow (F := Ideal)) (mark V) (table x) (mark K) = if step V (supp x) K = K then 0#1 else 1#1 := by
  unfold flag
  have hv : k0_pay3 (qpow (F := Ideal)) (mark V) (mark K) (table x)
      = ∑ j : Fin 5120, (FloatOps.absf (F := Ideal) (φ := .f32) (mark (step V (supp x) K) (ix2 0 j) - mark K (ix2 0 j)) : EReal) := by
    rw [pay3_eq, pay2_mark]
  have hterm : ∀ j, (FloatOps.absf (F := Ideal) (φ := .f32) (mark (step V (supp x) K) (ix2 0 j) - mark K (ix2 0 j)) : EReal)
      = if (step V (supp x) K j ↔ K j) then 0 else 1 := by
    intro j
    rw [mark_at, mark_at]
    have e1 : (1 : EReal) - 1 = 0 := by rw [← EReal.coe_one, ← EReal.coe_sub]; simp
    have e2 : (-1 : EReal) ≤ 1 := by rw [← EReal.coe_one]; exact_mod_cast (by norm_num : (-1 : ℝ) ≤ 1)
    show max _ (-_) = _
    by_cases h1 : step V (supp x) K j <;> by_cases h2 : K j <;> simp [h1, h2, e1, e2]
  rw [hv, Finset.sum_congr rfl fun j _ => hterm j]
  show BitVec.ofBool (decide (Ideal.ofBits .f32 0x00000000#32 < _)) = _
  simp only [Ideal.ofBits_zero_f32]
  by_cases h : step V (supp x) K = K
  · rw [if_pos h, Finset.sum_eq_zero fun j _ => if_pos (by rw [h])]
    simp
  · rw [if_neg h]
    have hpos : (0 : EReal) < ∑ j : Fin 5120, if (step V (supp x) K j ↔ K j) then (0 : EReal) else 1 := by
      obtain ⟨j, hj⟩ := Function.ne_iff.mp h
      have hj' : ¬ (step V (supp x) K j ↔ K j) := fun hh => hj (propext hh)
      refine lt_of_lt_of_le (zero_lt_one) ?_
      have := Finset.single_le_sum (f := fun j => if (step V (supp x) K j ↔ K j) then (0 : EReal) else 1)
        (fun i _ => by split <;> simp) (Finset.mem_univ j)
      simpa only [hj', if_false] using this
    rw [decide_eq_true hpos]; rfl

/-- The order of suppression is strict. -/
theorem prec_irr (i : Fin 5120) : ¬ prec x i i := by
  unfold prec; simp
/-- The order of lanes is transitive. -/
theorem prec_trans (i j k : Fin 5120) : prec x i j → prec x j k → prec x i k := by
  unfold prec
  rintro (h1 | ⟨h1, h1'⟩) (h2 | ⟨h2, h2'⟩)
  · exact Or.inl (lt_trans h2 h1)
  · exact Or.inl (h2 ▸ h1)
  · exact Or.inl (h1 ▸ h2)
  · exact Or.inr ⟨h1.trans h2, lt_trans h1' h2'⟩

/-- The place in the order. -/
def place (j : Fin 5120) : ℕ := before (prec x) j

/-- A lane has fewer lanes before it than there are. -/
theorem place_lt (j : Fin 5120) : place x j < 5120 := before_lt _ (prec_irr x) j
/-- A lane that comes before another has fewer before it. -/
theorem place_mono (i j : Fin 5120) (h : prec x i j) : place x i < place x j :=
  before_mono _ (prec_irr x) (prec_trans x) i j h

/-- The kept boxes. -/
def keeps : Fin 5120 → Prop := keep (okBox x) (supp x)

/-- One more trip changes none of the kept marks. -/
theorem keeps_fix : step (okBox x) (supp x) (keeps x) = keeps x :=
  keep_fix (place x) (place_lt x) fun i j h => place_mono x i j h.2

/-- A loop whose flag is down stays where it is. -/
theorem run_zero (q : FVec Ideal S5120x320 .f32) (v : FVec Ideal S1x5120 .f32) (M : Vec Ideal S320x5120 .i32) (k : FVec Ideal S1x5120 .f32) :
    ∀ n, run q v M n 0#1 k = (0#1, k)
  | 0 => rfl
  | n + 1 => by rw [run, if_neg (by decide)]

/-- With more trips than are left to settle, the loop ends at the settled row. -/
theorem run_mark : ∀ n t, t ≤ 5120 → 5121 ≤ t + n →
    run qpow (mark (okBox x)) (table x) n 1#1 (mark (iter (okBox x) (supp x) t)) = (0#1, mark (keeps x)) := by
  intro n
  induction n with
  | zero => intro t h1 h2; omega
  | succ n ih =>
    intro t h1 h2
    rw [run, if_pos rfl, flag_mark, pay2_mark]
    by_cases h : step (okBox x) (supp x) (iter (okBox x) (supp x) t) = iter (okBox x) (supp x) t
    · rw [if_pos h, h, run_zero, iter_rest h1 h]
      rfl
    · rw [if_neg h]
      have hlt : t < 5120 := by
        rcases Nat.lt_or_eq_of_le h1 with h3 | h3
        · exact h3
        · subst h3; exact absurd (keeps_fix x) h
      exact ih (t + 1) hlt (by omega)

/-- What the loop ends at. -/
theorem kept_eq : kept x = (0#1, mark (keeps x)) := by
  unfold kept
  rw [rMark_eq]
  exact run_mark x fuel 0 (Nat.zero_le _) (by unfold fuel; norm_num)

/-- The loop comes to rest. -/
theorem kept_rest : (kept x).1 ≠ 1#1 := by
  rw [kept_eq]; show (0#1 : BitVec 1) ≠ 1#1; decide

end Cert.KernelIdeal.Own
end
-- ==== Proof.KInp.lean ====
module

public import proofs.«01_k».proof.Proof.KRun
public import Idealize.ShloMosaic.Lib.StableHlo.RunRead
public import Idealize.ShloMosaic.Lib.StableHlo.ReadAt
public import Idealize.ShloMosaic.Lib.Routing.OpsSet

/-!
# The array the host builds for the kernel

Its entries at the lanes of the 5000 boxes: the proposals, the regressions, the class logits and the qualities.
-/

@[expose] public section
set_option maxRecDepth 65536
noncomputable section
namespace Cert.KernelIdeal.Own
open Idealize.ShloMosaic Idealize.ShloMosaic.TcCoe
open Idealize.ShloMosaic.Routing
open Cert.KernelIdeal Cert.KernelIdeal.Gen
/-- Where an entry of the four-row write lands. -/
theorem start4 (idx : IVec S2 32) (k : S4x5000.Idx) :
    scatter_S16x5120_S2_S4x5000_01_n_01_0.start k idx 0 = (idx (ix1 0)).toInt ∧ scatter_S16x5120_S2_S4x5000_01_n_01_0.start k idx 1 = (idx (ix1 1)).toInt
    ∧ scatter_S16x5120_S2_S4x5000_01_n_01_0.window k 0 = (k 0).val ∧ scatter_S16x5120_S2_S4x5000_01_n_01_0.window k 1 = (k 1).val := by
  refine ⟨?_, ?_, ?_, ?_⟩
  · simp [ScatterDims.start, scatter_S16x5120_S2_S4x5000_01_n_01_0]
    exact congrArg (fun i => (idx i).toInt) (funext fun a => by match a with | ⟨0, _⟩ => rfl)
  · simp [ScatterDims.start, scatter_S16x5120_S2_S4x5000_01_n_01_0]
    exact congrArg (fun i => (idx i).toInt) (funext fun a => by match a with | ⟨0, _⟩ => rfl)
  · rfl
  · rfl
/-- Where an entry of the two-row write lands. -/
theorem start2 (idx : IVec S2 32) (k : S2x5000.Idx) :
    scatter_S16x5120_S2_S2x5000_01_n_01_0.start k idx 0 = (idx (ix1 0)).toInt ∧ scatter_S16x5120_S2_S2x5000_01_n_01_0.start k idx 1 = (idx (ix1 1)).toInt
    ∧ scatter_S16x5120_S2_S2x5000_01_n_01_0.window k 0 = (k 0).val ∧ scatter_S16x5120_S2_S2x5000_01_n_01_0.window k 1 = (k 1).val := by
  refine ⟨?_, ?_, ?_, ?_⟩
  · simp [ScatterDims.start, scatter_S16x5120_S2_S2x5000_01_n_01_0]
    exact congrArg (fun i => (idx i).toInt) (funext fun a => by match a with | ⟨0, _⟩ => rfl)
  · simp [ScatterDims.start, scatter_S16x5120_S2_S2x5000_01_n_01_0]
    exact congrArg (fun i => (idx i).toInt) (funext fun a => by match a with | ⟨0, _⟩ => rfl)
  · rfl
  · rfl
/-- Where an entry of the one-row write lands. -/
theorem start1 (idx : IVec S2 32) (k : S5000.Idx) :
    scatter_S16x5120_S2_S5000_0_0_01_0.start k idx 0 = (idx (ix1 0)).toInt ∧ scatter_S16x5120_S2_S5000_0_0_01_0.start k idx 1 = (idx (ix1 1)).toInt
    ∧ scatter_S16x5120_S2_S5000_0_0_01_0.window k 0 = 0 ∧ scatter_S16x5120_S2_S5000_0_0_01_0.window k 1 = (k 0).val := by
  refine ⟨?_, ?_, ?_, ?_⟩
  · simp [ScatterDims.start, scatter_S16x5120_S2_S5000_0_0_01_0]
    exact congrArg (fun i => (idx i).toInt) (funext fun a => by match a with | ⟨0, _⟩ => rfl)
  · simp [ScatterDims.start, scatter_S16x5120_S2_S5000_0_0_01_0]
    exact congrArg (fun i => (idx i).toInt) (funext fun a => by match a with | ⟨0, _⟩ => rfl)
  · rfl
  · rfl
/-- The array after the write of 4 rows from row `n` on. -/
theorem put4 {α : Type} (x0 : S16x5120.Idx → α) (idx : IVec S2 32) (upd : S4x5000.Idx → α) (n : ℕ) (hn : n < 16)
    (h0 : idx (ix1 0) = BitVec.ofNat 32 n) (h1 : idx (ix1 1) = 0#32) (k : Fin 16) (j : Fin 5120) :
    Host.scatter scatter_S16x5120_S2_S4x5000_01_n_01_0 (fun _ b => b) x0 idx upd (ix2 k j)
      = if h : n ≤ k.val ∧ k.val < n + 4 ∧ j.val < 5000 then upd (ix2 ⟨k.val - n, by omega⟩ ⟨j.val, h.2.2⟩) else x0 (ix2 k j) := by
  have e0 : (idx (ix1 0)).toInt = (n : ℤ) := by rw [h0]; exact StableHlo.Predicate.toInt_ofNat_small n (by omega)
  have e1 : (idx (ix1 1)).toInt = 0 := by rw [h1]; rfl
  have key : ∀ u : S4x5000.Idx, scatter_S16x5120_S2_S4x5000_01_n_01_0.resultIdx? u idx = some (ix2 k j)
      ↔ n + (u 0).val = k.val ∧ (u 1).val = j.val := by
    intro u
    refine (resultIdx?_ix2 _ u idx k j).trans ?_
    obtain ⟨a, b, a', b'⟩ := start4 idx u
    rw [a, b, a', b', e0, e1]
    constructor <;> intro h <;> constructor <;> omega
  split
  · next h =>
    refine scatter_set_hit _ x0 idx upd _ _ (fun u hu => ?_) (ix2 ⟨k.val - n, by omega⟩ ⟨j.val, h.2.2⟩) ((key _).2 ?_)
    · have hu := (key u).1 hu
      refine congrArg upd ((eq_ix2 u).trans ?_)
      congr 1 <;> apply Fin.ext
      · show (u 0).val = k.val - n
        omega
      · exact hu.2
    · exact ⟨by show n + (k.val - n) = k.val; omega, rfl⟩
  · next h =>
    refine scatter_set_miss _ x0 idx upd _ (fun u hu => h ?_)
    have hu := (key u).1 hu
    have := (u 0).isLt
    have : (u 0).val < 4 := this
    have := (u 1).isLt
    have : (u 1).val < 5000 := this
    omega
/-- The array after the write of 2 rows from row `n` on. -/
theorem put2 {α : Type} (x0 : S16x5120.Idx → α) (idx : IVec S2 32) (upd : S2x5000.Idx → α) (n : ℕ) (hn : n < 16)
    (h0 : idx (ix1 0) = BitVec.ofNat 32 n) (h1 : idx (ix1 1) = 0#32) (k : Fin 16) (j : Fin 5120) :
    Host.scatter scatter_S16x5120_S2_S2x5000_01_n_01_0 (fun _ b => b) x0 idx upd (ix2 k j)
      = if h : n ≤ k.val ∧ k.val < n + 2 ∧ j.val < 5000 then upd (ix2 ⟨k.val - n, by omega⟩ ⟨j.val, h.2.2⟩) else x0 (ix2 k j) := by
  have e0 : (idx (ix1 0)).toInt = (n : ℤ) := by rw [h0]; exact StableHlo.Predicate.toInt_ofNat_small n (by omega)
  have e1 : (idx (ix1 1)).toInt = 0 := by rw [h1]; rfl
  have key : ∀ u : S2x5000.Idx, scatter_S16x5120_S2_S2x5000_01_n_01_0.resultIdx? u idx = some (ix2 k j)
      ↔ n + (u 0).val = k.val ∧ (u 1).val = j.val := by
    intro u
    refine (resultIdx?_ix2 _ u idx k j).trans ?_
    obtain ⟨a, b, a', b'⟩ := start2 idx u
    rw [a, b, a', b', e0, e1]
    constructor <;> intro h <;> constructor <;> omega
  split
  · next h =>
    refine scatter_set_hit _ x0 idx upd _ _ (fun u hu => ?_) (ix2 ⟨k.val - n, by omega⟩ ⟨j.val, h.2.2⟩) ((key _).2 ?_)
    · have hu := (key u).1 hu
      refine congrArg upd ((eq_ix2 u).trans ?_)
      congr 1 <;> apply Fin.ext
      · show (u 0).val = k.val - n
        omega
      · exact hu.2
    · exact ⟨by show n + (k.val - n) = k.val; omega, rfl⟩
  · next h =>
    refine scatter_set_miss _ x0 idx upd _ (fun u hu => h ?_)
    have hu := (key u).1 hu
    have := (u 0).isLt
    have : (u 0).val < 2 := this
    have := (u 1).isLt
    have : (u 1).val < 5000 := this
    omega
/-- The array after the write of row `n`. -/
theorem put1 {α : Type} (x0 : S16x5120.Idx → α) (idx : IVec S2 32) (upd : S5000.Idx → α) (n : ℕ) (hn : n < 16)
    (h0 : idx (ix1 0) = BitVec.ofNat 32 n) (h1 : idx (ix1 1) = 0#32) (k : Fin 16) (j : Fin 5120) :
    Host.scatter scatter_S16x5120_S2_S5000_0_0_01_0 (fun _ b => b) x0 idx upd (ix2 k j)
      = if h : k.val = n ∧ j.val < 5000 then upd (ix1 ⟨j.val, h.2⟩) else x0 (ix2 k j) := by
  have e0 : (idx (ix1 0)).toInt = (n : ℤ) := by rw [h0]; exact StableHlo.Predicate.toInt_ofNat_small n (by omega)
  have e1 : (idx (ix1 1)).toInt = 0 := by rw [h1]; rfl
  have key : ∀ u : S5000.Idx, scatter_S16x5120_S2_S5000_0_0_01_0.resultIdx? u idx = some (ix2 k j)
      ↔ n = k.val ∧ (u 0).val = j.val := by
    intro u
    refine (resultIdx?_ix2 _ u idx k j).trans ?_
    obtain ⟨a, b, a', b'⟩ := start1 idx u
    rw [a, b, a', b', e0, e1]
    constructor <;> intro h <;> constructor <;> omega
  split
  · next h =>
    refine scatter_set_hit _ x0 idx upd _ _ (fun u hu => ?_) (ix1 ⟨j.val, h.2⟩) ((key _).2 ⟨h.1.symm, rfl⟩)
    have hu := (key u).1 hu
    refine congrArg upd (funext fun a => ?_)
    match a with
    | ⟨0, _⟩ => exact Fin.ext hu.2
  · next h =>
    refine scatter_set_miss _ x0 idx upd _ (fun u hu => h ?_)
    have hu := (key u).1 hu
    have := (u 0).isLt
    have : (u 0).val < 5000 := this
    omega
/-- The start of the write at row 0. -/
theorem word0 (W : Valuation τ sig (Elt Ideal)) :
    (concatenate S2 0
      [⟨S1, (StableHlo.upto hostOps0 W 7 (Proc.tc.devRef main_v2) : IVec S1 32)⟩,
        ⟨S1, (StableHlo.upto hostOps0 W 7 (Proc.tc.devRef main_v3) : IVec S1 32)⟩]
      concatenates_S1_S1_S2_d0 : IVec S2 32) (ix1 0) = BitVec.ofNat 32 0
    ∧ (concatenate S2 0
      [⟨S1, (StableHlo.upto hostOps0 W 7 (Proc.tc.devRef main_v2) : IVec S1 32)⟩,
        ⟨S1, (StableHlo.upto hostOps0 W 7 (Proc.tc.devRef main_v3) : IVec S1 32)⟩]
      concatenates_S1_S1_S2_d0 : IVec S2 32) (ix1 1) = 0#32 := by
  constructor <;> pointwise <;> after_reads_simp <;> pointwise
/-- The start of the write at row 4. -/
theorem word4 (W : Valuation τ sig (Elt Ideal)) :
    (concatenate S2 0
      [⟨S1, (StableHlo.upto hostOps0 W 14 (Proc.tc.devRef main_v7) : IVec S1 32)⟩,
        ⟨S1, (StableHlo.upto hostOps0 W 14 (Proc.tc.devRef main_v8) : IVec S1 32)⟩]
      concatenates_S1_S1_S2_d0 : IVec S2 32) (ix1 0) = BitVec.ofNat 32 4
    ∧ (concatenate S2 0
      [⟨S1, (StableHlo.upto hostOps0 W 14 (Proc.tc.devRef main_v7) : IVec S1 32)⟩,
        ⟨S1, (StableHlo.upto hostOps0 W 14 (Proc.tc.devRef main_v8) : IVec S1 32)⟩]
      concatenates_S1_S1_S2_d0 : IVec S2 32) (ix1 1) = 0#32 := by
  constructor <;> pointwise <;> after_reads_simp <;> pointwise
/-- The start of the write at row 8. -/
theorem word8 (W : Valuation τ sig (Elt Ideal)) :
    (concatenate S2 0
      [⟨S1, (StableHlo.upto hostOps0 W 21 (Proc.tc.devRef main_v12) : IVec S1 32)⟩,
        ⟨S1, (StableHlo.upto hostOps0 W 21 (Proc.tc.devRef main_v13) : IVec S1 32)⟩]
      concatenates_S1_S1_S2_d0 : IVec S2 32) (ix1 0) = BitVec.ofNat 32 8
    ∧ (concatenate S2 0
      [⟨S1, (StableHlo.upto hostOps0 W 21 (Proc.tc.devRef main_v12) : IVec S1 32)⟩,
        ⟨S1, (StableHlo.upto hostOps0 W 21 (Proc.tc.devRef main_v13) : IVec S1 32)⟩]
      concatenates_S1_S1_S2_d0 : IVec S2 32) (ix1 1) = 0#32 := by
  constructor <;> pointwise <;> after_reads_simp <;> pointwise
/-- The start of the write at row 10. -/
theorem word10 (W : Valuation τ sig (Elt Ideal)) :
    (concatenate S2 0
      [⟨S1, (StableHlo.upto hostOps0 W 27 (Proc.tc.devRef main_v16) : IVec S1 32)⟩,
        ⟨S1, (StableHlo.upto hostOps0 W 27 (Proc.tc.devRef main_v17) : IVec S1 32)⟩]
      concatenates_S1_S1_S2_d0 : IVec S2 32) (ix1 0) = BitVec.ofNat 32 10
    ∧ (concatenate S2 0
      [⟨S1, (StableHlo.upto hostOps0 W 27 (Proc.tc.devRef main_v16) : IVec S1 32)⟩,
        ⟨S1, (StableHlo.upto hostOps0 W 27 (Proc.tc.devRef main_v17) : IVec S1 32)⟩]
      concatenates_S1_S1_S2_d0 : IVec S2 32) (ix1 1) = 0#32 := by
  constructor <;> pointwise <;> after_reads_simp <;> pointwise
/-- The lane of a box. -/
def up (j : Fin 5000) : Fin 5120 := ⟨j.val, by omega⟩

/-- The array's rows at the lane of a box, from any contents before the host operations. -/
theorem read19 (W : Valuation τ sig (Elt Ideal)) (j : Fin 5000) :
    (∀ k : Fin 4, (StableHlo.after hostOps0 W (Proc.devRef .tc main_v19) : Vec Ideal S16x5120 .f32) (ix2 ⟨k.val, by omega⟩ (up j))
      = (W (Proc.devRef .tc main_arg3) : Vec Ideal S5000x4 .f32) (ix2 j k))
    ∧ (∀ k : Fin 4, (StableHlo.after hostOps0 W (Proc.devRef .tc main_v19) : Vec Ideal S16x5120 .f32) (ix2 ⟨4 + k.val, by omega⟩ (up j))
      = (W (Proc.devRef .tc main_arg1) : Vec Ideal S5000x4 .f32) (ix2 j k))
    ∧ (∀ k : Fin 2, (StableHlo.after hostOps0 W (Proc.devRef .tc main_v19) : Vec Ideal S16x5120 .f32) (ix2 ⟨8 + k.val, by omega⟩ (up j))
      = (W (Proc.devRef .tc main_arg0) : Vec Ideal S5000x2 .f32) (ix2 j k))
    ∧ (StableHlo.after hostOps0 W (Proc.devRef .tc main_v19) : Vec Ideal S16x5120 .f32) (ix2 10 (up j))
      = (W (Proc.devRef .tc main_arg2) : Vec Ideal S5000 .f32) (ix1 j) := by
  have hj : (up j).val < 5000 := j.isLt
  refine ⟨fun k => ?_, fun k => ?_, fun k => ?_, ?_⟩
  all_goals
    after_reads_simp
    rw [put1 _ _ _ 10 (by omega) (word10 W).1 (word10 W).2]
  · have hk := k.isLt
    rw [dif_neg (by rintro ⟨h, _⟩; dsimp only at h; omega), put2 _ _ _ 8 (by omega) (word8 W).1 (word8 W).2,
      dif_neg (by rintro ⟨h, _⟩; dsimp only at h; omega), put4 _ _ _ 4 (by omega) (word4 W).1 (word4 W).2,
      dif_neg (by rintro ⟨h, _⟩; dsimp only at h; omega), put4 _ _ _ 0 (by omega) (word0 W).1 (word0 W).2,
      dif_pos ⟨by omega, by dsimp only; omega, hj⟩]
    pointwise
    rfl
  · have hk := k.isLt
    rw [dif_neg (by rintro ⟨h, _⟩; dsimp only at h; omega), put2 _ _ _ 8 (by omega) (word8 W).1 (word8 W).2,
      dif_neg (by rintro ⟨h, _⟩; dsimp only at h; omega), put4 _ _ _ 4 (by omega) (word4 W).1 (word4 W).2,
      dif_pos ⟨by dsimp only; omega, by dsimp only; omega, hj⟩]
    pointwise
    rfl
  · have hk := k.isLt
    rw [dif_neg (by rintro ⟨h, _⟩; dsimp only at h; omega), put2 _ _ _ 8 (by omega) (word8 W).1 (word8 W).2,
      dif_pos ⟨by dsimp only; omega, by dsimp only; omega, hj⟩]
    pointwise
    rfl
  · rw [dif_pos ⟨rfl, hj⟩]
    rfl

variable (m : (ℓ : Loc nD τ sig) → Buf (Elt Ideal) ℓ) (c : Dev nD)

/-- The array's contents as the host operations leave them. -/
theorem inp_after : inp m c = (StableHlo.after hostOps0 (fun b => m (c, b)) (Proc.devRef .tc main_v19) : Vec Ideal S16x5120 .f32) := by
  rw [← inp_eq]
  show StableHlo.after (List.flatten [hostOps0]) (fun b => m (c, b)) _ = _
  rw [show List.flatten [hostOps0 (F := Ideal)] = hostOps0 from by simp only [List.flatten_cons, List.flatten_nil, List.append_nil]]

/-- The proposals. -/
abbrev argP : Vec Ideal S5000x4 .f32 := m (c, Proc.devRef .tc main_arg3)
/-- The regressions. -/
abbrev argR : Vec Ideal S5000x4 .f32 := m (c, Proc.devRef .tc main_arg1)
/-- The class logits. -/
abbrev argC : Vec Ideal S5000x2 .f32 := m (c, Proc.devRef .tc main_arg0)
/-- The qualities. -/
abbrev argQ : Vec Ideal S5000 .f32 := m (c, Proc.devRef .tc main_arg2)

/-- Rows 0 to 3 hold the proposals. -/
theorem inp_P (j : Fin 5000) (k : Fin 4) : inp m c (ix2 ⟨k.val, by omega⟩ (up j)) = argP m c (ix2 j k) := by
  rw [inp_after]; exact (read19 (fun b => m (c, b)) j).1 k
/-- Rows 4 to 7 hold the regressions. -/
theorem inp_R (j : Fin 5000) (k : Fin 4) : inp m c (ix2 ⟨4 + k.val, by omega⟩ (up j)) = argR m c (ix2 j k) := by
  rw [inp_after]; exact (read19 (fun b => m (c, b)) j).2.1 k
/-- Rows 8 and 9 hold the class logits. -/
theorem inp_C (j : Fin 5000) (k : Fin 2) : inp m c (ix2 ⟨8 + k.val, by omega⟩ (up j)) = argC m c (ix2 j k) := by
  rw [inp_after]; exact (read19 (fun b => m (c, b)) j).2.2.1 k
/-- Row 10 holds the qualities. -/
theorem inp_Q (j : Fin 5000) : inp m c (ix2 10 (up j)) = argQ m c (ix1 j) := by
  rw [inp_after]; exact (read19 (fun b => m (c, b)) j).2.2.2
end Cert.KernelIdeal.Own
end
-- ==== Proof.Spec.lean ====
module

public import Idealize.ShloMosaic.PureOps.Ideal

/-!
# What both programs compute of one box

The decoded and clipped edges, the class probability, the score and the validity, as functions of a proposal's corners, a
regression, two logits and a quality.
-/

@[expose] public section
noncomputable section
namespace Cert.Nms
open Idealize.ShloMosaic

/-- A bit is set where its condition holds. -/
theorem ofBool_eq_one (b : Bool) : BitVec.ofBool b = 1#1 ↔ b = true := by cases b <;> simp

/-- One half. -/
def half : EReal := Ideal.ofBits .f32 0x3F000000#32
/-- The width of the image. -/
def wide : EReal := Ideal.ofBits .f32 0x44BB8000#32
/-- The height of the image. -/
def high : EReal := Ideal.ofBits .f32 0x44610000#32
/-- The score of a box that is out. -/
def low : EReal := Ideal.ofBits .f32 0xBF800000#32
/-- The least side of a box. -/
def small : EReal := Ideal.ofBits .f32 0x3C23D70A#32
/-- The least class probability. -/
def least : EReal := Ideal.ofBits .f32 0x3D4CCCCD#32

/-- The decoded center on one axis, from the proposal's two edges and the regression's offset. -/
def center (lo hi d : EReal) : EReal :=
  Ideal.div d (Ideal.ofBits .f32 0x41200000#32) * (hi - lo) + (lo + half * (hi - lo))
/-- The decoded extent on one axis. -/
def extent (lo hi e : EReal) : EReal :=
  Ideal.exp (min (Ideal.div e (Ideal.ofBits .f32 0x40A00000#32)) (Ideal.ofBits .f32 0x40845349#32)) * (hi - lo)
/-- A number clipped to the range from zero to `b`. -/
def clip (b v : EReal) : EReal := min b (max 0 v)
/-- The lower edge on one axis, clipped to `b`. -/
def lower (b lo hi d e : EReal) : EReal := clip b (center lo hi d - half * extent lo hi e)
/-- The upper edge on one axis, clipped to `b`. -/
def upper (b lo hi d e : EReal) : EReal := clip b (center lo hi d + half * extent lo hi e)
/-- The probability of the second class. -/
def prob (u v : EReal) : EReal :=
  Ideal.div (Ideal.exp (v - max u v)) (Ideal.exp (u - max u v) + Ideal.exp (v - max u v))
/-- The score: the quality's logistic times the class probability. -/
def score (u v q : EReal) : EReal := Ideal.div 1 (1 + Ideal.exp (0 - q)) * prob u v

/-- The arguments of one run: proposals, regressions, class logits, qualities. -/
structure Args where
  /-- The proposals. -/
  P : Fin 5000 → Fin 4 → EReal
  /-- The regressions. -/
  R : Fin 5000 → Fin 4 → EReal
  /-- The class logits. -/
  C : Fin 5000 → Fin 2 → EReal
  /-- The qualities. -/
  Q : Fin 5000 → EReal

namespace Args
variable (A : Args) (j : Fin 5000)
/-- The left edge. -/
def x1 : EReal := lower wide (A.P j 0) (A.P j 2) (A.R j 0) (A.R j 2)
/-- The top edge. -/
def y1 : EReal := lower high (A.P j 1) (A.P j 3) (A.R j 1) (A.R j 3)
/-- The right edge. -/
def x2 : EReal := upper wide (A.P j 0) (A.P j 2) (A.R j 0) (A.R j 2)
/-- The bottom edge. -/
def y2 : EReal := upper high (A.P j 1) (A.P j 3) (A.R j 1) (A.R j 3)
/-- The class probability. -/
def raw : EReal := prob (A.C j 0) (A.C j 1)
/-- The score. -/
def sc : EReal := score (A.C j 0) (A.C j 1) (A.Q j)
/-- Whether the box is large and probable enough. -/
def ok : Prop := (small ≤ A.x2 j - A.x1 j ∧ small ≤ A.y2 j - A.y1 j) ∧ least < A.raw j
open scoped Classical in
/-- The score, −1 where the box is not valid. -/
def sm : EReal := if A.ok j then A.sc j else low
/-- The area. -/
def area : EReal := (A.x2 j - A.x1 j) * (A.y2 j - A.y1 j)
/-- The area two boxes share. -/
def inter (i j : Fin 5000) : EReal :=
  max (min (A.x2 i) (A.x2 j) - max (A.x1 i) (A.x1 j)) 0 * max (min (A.y2 i) (A.y2 j) - max (A.y1 i) (A.y1 j)) 0
/-- Box `i` comes before box `j`: a greater masked score, or the same and a smaller number. -/
def first (i j : Fin 5000) : Prop := A.sm j < A.sm i ∨ (A.sm i = A.sm j ∧ i.val < j.val)
end Args
end Cert.Nms
end
-- ==== Proof.KRows.lean ====
module

public import proofs.«01_k».proof.Proof.KInp
public import proofs.«01_k».proof.Proof.KRest
public import proofs.«01_k».proof.Proof.Spec

/-!
# The kernel's rows at the lane of a box
-/

@[expose] public section
set_option maxRecDepth 65536
noncomputable section
namespace Cert.KernelIdeal.Own
open Idealize.ShloMosaic Idealize.ShloMosaic.TcCoe
open Cert.KernelIdeal Cert.KernelIdeal.Gen Cert.Nms

section rows
variable (x : Vec Ideal S16x5120 .f32) (j : Fin 5120)
/-- The left edge of the proposal. -/
theorem pay9_at : k0_pay9 x (ix2 0 j) = x (ix2 0 j) := by
  pointwise [k0_pay9, k0_pay8]
/-- The top edge of the proposal. -/
theorem pay10_at : k0_pay10 x (ix2 0 j) = x (ix2 1 j) := by
  pointwise [k0_pay10, k0_pay8]
/-- The first logit. -/
theorem pay11_at : k0_pay11 x (ix2 0 j) = x (ix2 8 j) := by
  pointwise [k0_pay11, k0_pay8]
/-- The second logit. -/
theorem pay12_at : k0_pay12 x (ix2 0 j) = x (ix2 9 j) := by
  pointwise [k0_pay12, k0_pay8]
/-- The quality. -/
theorem pay13_at : k0_pay13 x (ix2 0 j) = x (ix2 10 j) := by
  pointwise [k0_pay13, k0_pay8]
/-- The width of the proposal. -/
theorem pay14_at : k0_pay14 x (ix2 0 j) = x (ix2 2 j) - x (ix2 0 j) := by
  pointwise [k0_pay14, k0_pay8]
  rw [pay9_at]
/-- The height of the proposal. -/
theorem pay15_at : k0_pay15 x (ix2 0 j) = x (ix2 3 j) - x (ix2 1 j) := by
  pointwise [k0_pay15, k0_pay8]
  rw [pay10_at]
/-- The decoded center across. -/
theorem pay16_at : k0_pay16 x (ix2 0 j) = center (x (ix2 0 j)) (x (ix2 2 j)) (x (ix2 4 j)) := by
  pointwise [k0_pay16, k0_pay8]
  rw [pay9_at, pay14_at]; rfl
/-- The decoded center down. -/
theorem pay17_at : k0_pay17 x (ix2 0 j) = center (x (ix2 1 j)) (x (ix2 3 j)) (x (ix2 5 j)) := by
  pointwise [k0_pay17, k0_pay8]
  rw [pay10_at, pay15_at]; rfl
/-- The decoded width. -/
theorem pay18_at : k0_pay18 x (ix2 0 j) = extent (x (ix2 0 j)) (x (ix2 2 j)) (x (ix2 6 j)) := by
  pointwise [k0_pay18, k0_pay8]
  rw [pay14_at]; rfl
/-- The decoded height. -/
theorem pay19_at : k0_pay19 x (ix2 0 j) = extent (x (ix2 1 j)) (x (ix2 3 j)) (x (ix2 7 j)) := by
  pointwise [k0_pay19, k0_pay8]
  rw [pay15_at]; rfl
/-- The left edge in a lane. -/
theorem rX1_at : rX1 x (ix2 0 j) = lower wide (x (ix2 0 j)) (x (ix2 2 j)) (x (ix2 4 j)) (x (ix2 6 j)) := by
  unfold rX1 k0_pay22 k0_pay20 k0_pay21
  pointwise
  rw [pay16_at, pay18_at]
  rfl
/-- The top edge in a lane. -/
theorem rY1_at : rY1 x (ix2 0 j) = lower high (x (ix2 1 j)) (x (ix2 3 j)) (x (ix2 5 j)) (x (ix2 7 j)) := by
  unfold rY1 k0_pay23
  pointwise
  rw [pay17_at, pay19_at]; rfl
/-- The right edge in a lane. -/
theorem rX2_at : rX2 x (ix2 0 j) = upper wide (x (ix2 0 j)) (x (ix2 2 j)) (x (ix2 4 j)) (x (ix2 6 j)) := by
  unfold rX2 k0_pay24
  pointwise
  rw [pay16_at, pay18_at]; rfl
/-- The bottom edge in a lane. -/
theorem rY2_at : rY2 x (ix2 0 j) = upper high (x (ix2 1 j)) (x (ix2 3 j)) (x (ix2 5 j)) (x (ix2 7 j)) := by
  unfold rY2 k0_pay25
  pointwise
  rw [pay17_at, pay19_at]; rfl
/-- The class probability in a lane. -/
theorem rRaw_at : rRaw x (ix2 0 j) = prob (x (ix2 8 j)) (x (ix2 9 j)) := by
  unfold rRaw k0_pay28
  pointwise
  rw [pay11_at, pay12_at]; rfl
/-- The score in a lane. -/
theorem rSc_at : rSc x (ix2 0 j) = score (x (ix2 8 j)) (x (ix2 9 j)) (x (ix2 10 j)) := by
  have e : k0_pay28 (k0_pay11 x) (k0_pay12 x) (ix2 0 j) = _ := rRaw_at x j
  unfold rSc k0_pay29
  pointwise
  rw [e, pay13_at]
  rfl
/-- The width in a lane. -/
theorem rW_at : rW x (ix2 0 j) = rX2 x (ix2 0 j) - rX1 x (ix2 0 j) := rfl
/-- The height in a lane. -/
theorem rH_at : rH x (ix2 0 j) = rY2 x (ix2 0 j) - rY1 x (ix2 0 j) := rfl
/-- The area in a lane. -/
theorem rArea_at : rArea x (ix2 0 j) = rW x (ix2 0 j) * rH x (ix2 0 j) := rfl
/-- A lane is valid where its box is large and probable enough and it is one of the first 5000. -/
theorem rValid_at : rValid x (ix2 0 j) = 1#1 ↔
    ((small ≤ rW x (ix2 0 j) ∧ small ≤ rH x (ix2 0 j)) ∧ least < rRaw x (ix2 0 j)) ∧ j.val < 5000 := by
  have e : rBig x (ix2 0 j) = IntOp.andi (BitVec.ofBool (decide (small ≤ rW x (ix2 0 j)))) (BitVec.ofBool (decide (small ≤ rH x (ix2 0 j)))) := rfl
  unfold rValid k0_pay31
  pointwise [rIdx]
  rw [e]
  rw [slt_ofNat _ _ (by omega) (by omega), andi_ofBool, andi_ofBool, andi_ofBool]
  rw [ofBool_eq_one]
  simp only [Bool.and_eq_true, decide_eq_true_eq]
  rfl
open scoped Classical in
/-- The masked score in a lane. -/
theorem rSm_at : rSm x (ix2 0 j) = if rValid x (ix2 0 j) = 1#1 then rSc x (ix2 0 j) else low := by
  have e : k0_pay31 (rRaw x) rIdx (rBig x) thr (ix2 0 j) = rValid x (ix2 0 j) := rfl
  unfold rSm k0_pay32
  pointwise
  rw [e]; rfl
open scoped Classical in
/-- The final score in a lane. -/
theorem rFin_at : rFin x (ix2 0 j) = if keeps x j then rSc x (ix2 0 j) else low := by
  unfold rFin k0_pay57
  rw [kept_eq]
  pointwise
  rw [mark_at]
  by_cases h : keeps x j
  · simp [h]
  · simp [h]; rfl
end rows

variable (m : (ℓ : Loc nD τ sig) → Buf (Elt Ideal) ℓ) (c : Dev nD)
/-- The kernel's arguments. -/
def argsK : Args := ⟨fun j k => argP m c (ix2 j k), fun j k => argR m c (ix2 j k), fun j k => argC m c (ix2 j k), fun j => argQ m c (ix1 j)⟩
variable (j : Fin 5000)
/-- The left edge in a box's lane. -/
theorem bX1 : rX1 (inp m c) (ix2 0 (up j)) = (argsK m c).x1 j := by
  rw [rX1_at]
  exact congr (congr (congr (congrArg _ (inp_P m c j 0)) (inp_P m c j 2)) (inp_R m c j 0)) (inp_R m c j 2)
/-- The top edge in a box's lane. -/
theorem bY1 : rY1 (inp m c) (ix2 0 (up j)) = (argsK m c).y1 j := by
  rw [rY1_at]
  exact congr (congr (congr (congrArg _ (inp_P m c j 1)) (inp_P m c j 3)) (inp_R m c j 1)) (inp_R m c j 3)
/-- The right edge in a box's lane. -/
theorem bX2 : rX2 (inp m c) (ix2 0 (up j)) = (argsK m c).x2 j := by
  rw [rX2_at]
  exact congr (congr (congr (congrArg _ (inp_P m c j 0)) (inp_P m c j 2)) (inp_R m c j 0)) (inp_R m c j 2)
/-- The bottom edge in a box's lane. -/
theorem bY2 : rY2 (inp m c) (ix2 0 (up j)) = (argsK m c).y2 j := by
  rw [rY2_at]
  exact congr (congr (congr (congrArg _ (inp_P m c j 1)) (inp_P m c j 3)) (inp_R m c j 1)) (inp_R m c j 3)
/-- The class probability in a box's lane. -/
theorem bRaw : rRaw (inp m c) (ix2 0 (up j)) = (argsK m c).raw j := by
  rw [rRaw_at]
  exact congr (congrArg _ (inp_C m c j 0)) (inp_C m c j 1)
/-- The score in a box's lane. -/
theorem bSc : rSc (inp m c) (ix2 0 (up j)) = (argsK m c).sc j := by
  rw [rSc_at]
  exact congr (congr (congrArg _ (inp_C m c j 0)) (inp_C m c j 1)) (inp_Q m c j)
/-- A box's lane is valid where the box is. -/
theorem bOk : okBox (inp m c) (up j) ↔ (argsK m c).ok j := by
  unfold okBox
  rw [rValid_at, rW_at, rH_at, bX1, bX2, bY1, bY2, bRaw]
  exact and_iff_left j.isLt
/-- A valid lane is a box's. -/
theorem ok_lt {l : Fin 5120} (h : okBox (inp m c) l) : l.val < 5000 := ((rValid_at _ _).1 h).2
open scoped Classical in
/-- The masked score in a box's lane. -/
theorem bSm : rSm (inp m c) (ix2 0 (up j)) = (argsK m c).sm j := by
  rw [rSm_at, bSc]
  exact if_congr (bOk m c j) rfl rfl
/-- The area in a box's lane. -/
theorem bArea : rArea (inp m c) (ix2 0 (up j)) = (argsK m c).area j := by
  rw [rArea_at, rW_at, rH_at, bX1, bX2, bY1, bY2]; rfl
/-- The order of two boxes' lanes. -/
theorem bPrec (i j : Fin 5000) : prec (inp m c) (up i) (up j) ↔ (argsK m c).first i j := by
  unfold prec
  rw [bSm, bSm]; rfl
/-- The overlap of two boxes' lanes. -/
theorem bOverl (i j : Fin 5000) : overl (inp m c) (up i) (up j) ↔
    ((argsK m c).area i * half + Ideal.ofBits .f32 0x3009705F#32) + half * (argsK m c).area j
      < Ideal.ofBits .f32 0x3FC00000#32 * (argsK m c).inter i j := by
  unfold overl
  rw [bArea, bArea, bX1, bX1, bX2, bX2, bY1, bY1, bY2, bY2]; rfl
end Cert.KernelIdeal.Own
end
-- ==== Proof.Order.lean ====
module

public import proofs.«01_k».proof.Proof.Fix
public import Idealize.ShloMosaic.Lib.SortFacts
public import Idealize.ShloMosaic.PureOps.Ideal

/-!
# A stable descending sort by a key

The order by a greater key and then by a smaller number, and the permutation a stable sort by the key alone makes.
-/

@[expose] public section
noncomputable section
namespace Cert.Nms
open Idealize.ShloMosaic
variable {n : ℕ} (key : Fin n → EReal)

/-- `i` comes before `j`: a greater key, or the same key and a smaller number. -/
def better (i j : Fin n) : Prop := key j < key i ∨ (key i = key j ∧ i.val < j.val)

/-- Nothing comes before itself. -/
theorem better_irr (i : Fin n) : ¬ better key i i := by
  rintro (h | h)
  · exact lt_irrefl _ h
  · exact lt_irrefl _ h.2

/-- Coming before is transitive. -/
theorem better_trans (i j k : Fin n) (h : better key i j) (h' : better key j k) : better key i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- Of two elements one comes first. -/
theorem better_total (i j : Fin n) (h : i ≠ j) : better key i j ∨ better key j i := by
  rcases lt_trichotomy (key i) (key j) with e | e | e
  · exact Or.inr (Or.inl e)
  · rcases lt_or_gt_of_ne (fun q : i.val = j.val => h (Fin.ext q)) with l | l
    · exact Or.inl (Or.inr ⟨e, l⟩)
    · exact Or.inr (Or.inr ⟨e.symm, l⟩)
  · exact Or.inl (Or.inl e)

/-- How many come before an element. -/
def rank (j : Fin n) : ℕ := before (better key) j

/-- Two elements with as many before them are one. -/
theorem rank_inj (i j : Fin n) (h : rank key i = rank key j) : i = j := by
  by_contra hne
  rcases better_total key i j hne with e | e
  · exact absurd h (before_mono _ (better_irr key) (better_trans key) i j e).ne
  · exact absurd h.symm (before_mono _ (better_irr key) (better_trans key) j i e).ne

open scoped Classical in
/-- The order as a truth value. -/
def betterB (i j : Fin n) : Bool := decide (better key i j)

/-- The truth value is that of the order. -/
theorem betterB_iff (i j : Fin n) : betterB key i j = true ↔ better key i j := by
  classical
  unfold betterB
  exact decide_eq_true_iff

/-- A stable sort by the key alone is a sort by the key and then the number. -/
theorem stable_list (R : Fin n → Fin n → Bool) (hR : ∀ i j, R i j = true ↔ key j < key i) (l : List (Fin n))
    (hl : l.Pairwise (· < ·)) : stableSort R l = stableSort (betterB key) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    rw [Bool.eq_iff_iff, hR]
    rw [betterB_iff]
    constructor
    · exact Or.inl
    · rintro (h | h)
      · exact h
      · exact absurd h.2 (by have : a.val < b.val := hab; omega)

variable (R : Fin n → Fin n → Bool) (hR : ∀ i j, R i j = true ↔ key j < key i)
include hR

/-- The permutation of the stable sort is that of the order. -/
theorem sorted_eq : sortedFrom R = sortedFrom (betterB key) := by
  funext k
  unfold sortedFrom
  have e : sortPositions n R = sortPositions n (betterB key) :=
    stable_list key R hR _ (List.pairwise_lt_finRange n)
  rw [List.get_of_eq e]
  rfl

/-- Earlier in the sort is before in the order. -/
theorem sorted_better (p q : Fin n) : p < q ↔ better key (sortedFrom R p) (sortedFrom R q) := by
  have hne : ∀ i j : Fin n, betterB key i j = false ↔ ¬ better key i j := fun i j => by
    rw [← betterB_iff, Bool.not_eq_true]
  have hlt : ∀ i j : Fin n, betterB key i j = true ↔ better key i j := betterB_iff key
  have hinv : ∀ p q : Fin n, p < q → better key (sortedFrom R p) (sortedFrom R q) := by
    intro p q hpq
    have hs : sortedFrom R p ≠ sortedFrom R q := fun e => hpq.ne (sortedFrom_injective R e)
    rcases better_total key _ _ hs with h | h
    · exact h
    · exfalso
      have := sortedFrom_noInversion (betterB key) (betterB key)
        (fun a b h => (hne _ _).2 fun h' => better_irr key _ (better_trans key _ _ _ ((hlt _ _).1 h) h')) (fun _ _ h => h)
        (fun a b c hab hbc => (hne _ _).2 fun h => by
          have hab := (hne _ _).1 hab
          have hbc := (hne _ _).1 hbc
          by_cases e : a = b
          · exact hbc (e ▸ h)
          · rcases better_total key a b e with h1 | h1
            · exact hab h1
            · exact hbc (better_trans key _ _ _ h1 h)) p q hpq
      rw [← sorted_eq key R hR] at this
      exact (hne _ _).1 this h
  refine ⟨hinv p q, fun h => ?_⟩
  rcases lt_trichotomy p q with e | e | e
  · exact e
  · exact absurd (e ▸ h) (better_irr key _)
  · exact absurd (better_trans key _ _ _ h (hinv q p e)) (better_irr key _)

/-- As many come before an element as its place in the sort says. -/
theorem rank_sorted (p : Fin n) : rank key (sortedFrom R p) = p.val := by
  classical
  unfold rank before
  have : (Finset.univ.filter fun i => better key i (sortedFrom R p)) = (Finset.univ.filter fun q : Fin n => q < p).map ⟨sortedFrom R, sortedFrom_injective R⟩ := by
    ext i
    obtain ⟨q, rfl⟩ := sortedFrom_surjective R i
    simp only [Finset.mem_filter, Finset.mem_univ, true_and, Finset.mem_map, Function.Embedding.coeFn_mk]
    constructor
    · intro h
      exact ⟨q, (sorted_better key R hR q p).2 h, rfl⟩
    · rintro ⟨q', h, e⟩
      rw [← e]
      exact (sorted_better key R hR q' p).1 h
  rw [this, Finset.card_map]
  rw [show (Finset.univ.filter fun q : Fin n => q < p) = Finset.Iio p from by ext; simp]
  exact Fin.card_Iio p
end Cert.Nms
end
-- ==== Proof.KOut.lean ====
module

public import proofs.«01_k».proof.Proof.KRows
public import proofs.«01_k».proof.Proof.Order

/-!
# The kernel's ranks and its stored result
-/

@[expose] public section
set_option maxRecDepth 65536
noncomputable section
namespace Cert.KernelIdeal.Own
open Idealize.ShloMosaic Idealize.ShloMosaic.TcCoe
open Cert.KernelIdeal Cert.KernelIdeal.Gen Cert.Nms

variable (x : Vec Ideal S16x5120 .f32)
/-- The final scores by lane. -/
def fin (l : Fin 5120) : EReal := rFin x (ix2 0 l)

/-- A lane's number, from its tile and its place there. -/
theorem lane_at : ∀ (k : Fin 40) (l : Fin 128), IntOp.addi (BitVec.ofNat 32 l.val) (Scalar.muli (Scf.iv 0#32 1#32 k.val) 128#32)
    = BitVec.ofNat 32 (128 * k.val + l.val) := by
  decide +kernel

open scoped Classical in
/-- One where lane `l` comes before lane `j`, else zero. -/
def ahead (j : Fin 5120) (l : ℕ) : ℕ := if h : l < 5120 then if better (fin x) ⟨l, h⟩ j then 1 else 0 else 0

/-- A tile's lanes are the row's. -/
theorem lanes_at (v : FVec Ideal S1x5120 .f32) (k : ℕ) (hk : k < 40) (l : Fin 128) :
    lanes v k (ix2 0 l) = v (ix2 0 ⟨128 * k + l.val, by omega⟩) := by
  unfold lanes
  refine congrArg (fun i : Fin 5120 => v (ix2 0 i)) (Fin.ext ?_)
  show (128 * k + l.val) % 5120 = 128 * k + l.val
  exact Nat.mod_eq_of_lt (by omega)

/-- One tile's share of a rank, for any rows. -/
theorem pay60_at (s q : FVec Ideal S1x5120 .f32) (t : FVec Ideal S1x128 .f32) (a : FVec Ideal S5120x1 .f32) (k : Fin k0_t2_loop.trips) (j : Fin 5120) :
    k0_pay60 s k0_pay34 cIdx tIdx q k a t (ix2 j 0)
      = a (ix2 j 0) + ∑ l : Fin 128, FloatOps.sitofp (F := Ideal) FTy.f32
          (BitVec.setWidth 32
            (IntOp.ori (BitVec.ofBool (decide (∑ z : Fin 1, k0_pay57 s q (ix2 z j) < t (ix2 0 l))))
              (IntOp.andi (BitVec.ofBool (decide (t (ix2 0 l) = ∑ z : Fin 1, k0_pay57 s q (ix2 z j))))
                (IntOp.cmpi CmpIPredicate.slt
                  (IntOp.addi (BitVec.ofNat 32 l.val) (Scalar.muli (Scf.iv 0#32 1#32 k.val) 128#32))
                  (BitVec.ofNat 32 j.val))))) := by
  pointwise [k0_pay60, k0_pay34, cIdx, tIdx]

/-- One tile's share of a rank. -/
theorem rank_step (a : FVec Ideal S5120x1 .f32) (k : Fin k0_t2_loop.trips) (j : Fin 5120) :
    k0_pay60 (rSc x) k0_pay34 cIdx tIdx (kept x).2 k a (lanes (rFin x) k) (ix2 j 0)
      = a (ix2 j 0) + ((∑ l ∈ Finset.range 128, ahead x j (128 * k.val + l) : ℕ) : EReal) := by
  have hk : k.val < 40 := by have h := k.isLt; have : k0_t2_loop.trips = 40 := by decide +kernel
                             omega
  rw [pay60_at]
  refine congrArg (a (ix2 j 0) + ·) ?_
  rw [Finset.sum_range, Nat.cast_sum]
  refine Finset.sum_congr rfl fun l _ => ?_
  have e1 : lanes (rFin x) k.val (ix2 0 l) = fin x ⟨128 * k.val + l.val, by omega⟩ := lanes_at _ _ hk l
  have e2 : (∑ x_2 : Fin 1, k0_pay57 (rSc x) (kept x).2 (ix2 x_2 j)) = fin x j := by
    rw [Fin.sum_univ_one]; rfl
  have e3 := lane_at ⟨k.val, hk⟩ l
  dsimp only at e3
  rw [e1, e2, e3, slt_ofNat _ _ (by omega) (by omega), andi_ofBool, ori_ofBool, sitofp_ofBool]
  unfold ahead
  rw [dif_pos (by omega : 128 * k.val + l.val < 5120)]
  by_cases h : better (fin x) ⟨128 * k.val + l.val, by omega⟩ j
  · rw [if_pos h, if_pos ?_, Nat.cast_one]
    simpa [better] using h
  · rw [if_neg h, if_neg ?_, Nat.cast_zero]
    simpa [better] using h

/-- The ranks after `k` tiles. -/
theorem ranks_at (j : Fin 5120) : ∀ k, k ≤ k0_t2_loop.trips →
    ranks x k (ix2 j 0) = ((∑ l ∈ Finset.range (128 * k), ahead x j l : ℕ) : EReal)
  | 0, _ => by
    show k0_pay59 (F := Ideal) (ix2 j 0) = _
    pointwise [k0_pay59]
    simp
  | k + 1, h => by
    rw [ranks, dif_pos (by omega : k < k0_t2_loop.trips), rank_step, ranks_at j k (by omega), Nat.mul_succ, Finset.sum_range_add,
      Nat.cast_add]

/-- A lane's rank is the number of lanes before it. -/
theorem ranks_end (j : Fin 5120) : ranks x k0_t2_loop.trips (ix2 j 0) = ((rank (fin x) j : ℕ) : EReal) := by
  have ht : k0_t2_loop.trips = 40 := by decide +kernel
  rw [ranks_at x j _ le_rfl, ht]
  refine congrArg (fun q : ℕ => (q : EReal)) ?_
  classical
  rw [show 128 * 40 = 5120 from rfl, Finset.sum_range]
  unfold rank before
  rw [Finset.card_filter]
  refine Finset.sum_congr rfl fun l _ => ?_
  unfold ahead
  rw [dif_pos l.isLt]

/-- The stored result at a place that some lane's rank names. -/
theorem out_at (I : Fin 5120) (r : Fin 384) (h : rank (fin x) I = r.val) (c : Fin 8) :
    out x (ix2 c r) = k0_pay62 (cX1 x) (cY1 x) (cX2 x) (cY2 x) (cSc x) (ix2 I c) := by
  unfold out
  pointwise [k0_pay1, k0_pay61]
  have key : ∀ l : Fin 5120, FloatOps.sitofp (F := Ideal) FTy.f32
      (BitVec.setWidth 32 (BitVec.ofBool (decide (ranks x k0_t2_loop.trips (ix2 l 0) = FloatOps.sitofp FTy.f32 (BitVec.ofNat 32 r.val)))))
      = if l = I then (1 : EReal) else 0 := by
    intro l
    rw [sitofp_ofBool, ranks_end, sitofp_ofNat _ (by omega)]
    refine if_congr ?_ rfl rfl
    rw [decide_eq_true_iff]
    constructor
    · intro e
      refine rank_inj (fin x) _ _ (h ▸ ?_)
      exact_mod_cast e
    · rintro rfl; rw [h]
  rw [Finset.sum_eq_single I]
  · rw [key, if_pos rfl, mul_one]
  · intro l _ hl
    rw [key, if_neg hl, mul_zero]
  · intro h; exact absurd (Finset.mem_univ _) h

/-- The first column of the table of values is the left edges. -/
theorem val0 (I : Fin 5120) : k0_pay62 (cX1 x) (cY1 x) (cX2 x) (cY2 x) (cSc x) (ix2 I 0) = rX1 x (ix2 0 I) := by
  pointwise [k0_pay62]
  exact pay36_at ..
/-- The second is the top edges. -/
theorem val1 (I : Fin 5120) : k0_pay62 (cX1 x) (cY1 x) (cX2 x) (cY2 x) (cSc x) (ix2 I 1) = rY1 x (ix2 0 I) := by
  pointwise [k0_pay62]
  exact pay37_at ..
/-- The third is the right edges. -/
theorem val2 (I : Fin 5120) : k0_pay62 (cX1 x) (cY1 x) (cX2 x) (cY2 x) (cSc x) (ix2 I 2) = rX2 x (ix2 0 I) := by
  pointwise [k0_pay62]
  exact pay38_at ..
/-- The fourth is the bottom edges. -/
theorem val3 (I : Fin 5120) : k0_pay62 (cX1 x) (cY1 x) (cX2 x) (cY2 x) (cSc x) (ix2 I 3) = rY2 x (ix2 0 I) := by
  pointwise [k0_pay62]
  exact pay39_at ..
/-- The fifth is the scores. -/
theorem val4 (I : Fin 5120) : k0_pay62 (cX1 x) (cY1 x) (cX2 x) (cY2 x) (cSc x) (ix2 I 4) = rSc x (ix2 0 I) := by
  pointwise [k0_pay62]
  exact pay42_at ..
end Cert.KernelIdeal.Own
end
-- ==== Proof.RSeg.lean ====
module

public import proofs.«01_k».proof.Proof.RefFrame
public import proofs.«01_k».proof.Proof.Spec
public import Idealize.ShloMosaic.Lib.Pointwise
public import Idealize.ShloMosaic.Lib.StableHlo.RunRead
public import Idealize.ShloMosaic.Lib.StableHlo.ReadAt

/-!
# The reference's stretches, read at an index

What each stretch of host operations leaves in the buffers that later ones read, as a term over the buffers before it.
-/

@[expose] public section
set_option maxRecDepth 65536
noncomputable section
namespace Cert.ReferenceIdeal.Own
open Idealize.ShloMosaic Idealize.ShloMosaic.TcCoe
open Cert.Nms
open Cert.ReferenceIdeal Cert.ReferenceIdeal.Gen Cert.ReferenceIdeal.Value
/-- The entry of a scalar buffer. -/
abbrev e0 (v : Vec Ideal S_ .f32) : EReal := v ix0
/-- An entry of a vector of the boxes. -/
abbrev e1 (v : Vec Ideal S5000 .f32) (j : Fin 5000) : EReal := v (ix1 j)
/-- An entry of a table of four columns. -/
abbrev e4 (v : Vec Ideal S5000x4 .f32) (j : Fin 5000) (k : Fin 4) : EReal := v (ix2 j k)
/-- An entry of a table of two columns. -/
abbrev e2 (v : Vec Ideal S5000x2 .f32) (j : Fin 5000) (k : Fin 2) : EReal := v (ix2 j k)
/-- A bit of a mask. -/
abbrev b1 (v : IVec S5000 1) (j : Fin 5000) : BitVec 1 := v (ix1 j)
/-- A word of a vector of words. -/
abbrev w1 (v : IVec S5000 32) (j : Fin 5000) : BitVec 32 := v (ix1 j)

variable (W : Valuation τ sig (Elt Ideal))
/-- What the stretch leaves in the buffer the name gives. -/
theorem s0_v66 (j : Fin 5000) : e1 (StableHlo.after hostOps0 W (Proc.devRef .tc main_v66)) j = center (e4 (W (Proc.devRef .tc main_arg3)) j 0) (e4 (W (Proc.devRef .tc main_arg3)) j 2) (e4 (W (Proc.devRef .tc main_arg1)) j 0) - half * extent (e4 (W (Proc.devRef .tc main_arg3)) j 0) (e4 (W (Proc.devRef .tc main_arg3)) j 2) (e4 (W (Proc.devRef .tc main_arg1)) j 2) := by
  after_reads_at
  after_reads_at
  rfl
/-- What the stretch leaves in the buffer the name gives. -/
theorem s0_v64_1 (j : Fin 5000) : e4 (StableHlo.after hostOps0 W (Proc.devRef .tc main_v64)) j 1 = center (e4 (W (Proc.devRef .tc main_arg3)) j 1) (e4 (W (Proc.devRef .tc main_arg3)) j 3) (e4 (W (Proc.devRef .tc main_arg1)) j 1) - half * extent (e4 (W (Proc.devRef .tc main_arg3)) j 1) (e4 (W (Proc.devRef .tc main_arg3)) j 3) (e4 (W (Proc.devRef .tc main_arg1)) j 3) := by
  after_reads_at
  after_reads_at
  rfl
/-- What the stretch leaves in the buffer the name gives. -/
theorem s0_v64_2 (j : Fin 5000) : e4 (StableHlo.after hostOps0 W (Proc.devRef .tc main_v64)) j 2 = center (e4 (W (Proc.devRef .tc main_arg3)) j 0) (e4 (W (Proc.devRef .tc main_arg3)) j 2) (e4 (W (Proc.devRef .tc main_arg1)) j 0) + half * extent (e4 (W (Proc.devRef .tc main_arg3)) j 0) (e4 (W (Proc.devRef .tc main_arg3)) j 2) (e4 (W (Proc.devRef .tc main_arg1)) j 2) := by
  after_reads_at
  after_reads_at
  rfl
/-- What the stretch leaves in the buffer the name gives. -/
theorem s0_v64_3 (j : Fin 5000) : e4 (StableHlo.after hostOps0 W (Proc.devRef .tc main_v64)) j 3 = center (e4 (W (Proc.devRef .tc main_arg3)) j 1) (e4 (W (Proc.devRef .tc main_arg3)) j 3) (e4 (W (Proc.devRef .tc main_arg1)) j 1) + half * extent (e4 (W (Proc.devRef .tc main_arg3)) j 1) (e4 (W (Proc.devRef .tc main_arg3)) j 3) (e4 (W (Proc.devRef .tc main_arg1)) j 3) := by
  after_reads_at
  after_reads_at
  rfl
/-- What the stretch leaves in the buffer the name gives. -/
theorem s0_cst_11  : e0 (StableHlo.after hostOps0 W (Proc.devRef .tc main_cst_11))  = 0 := by
  after_reads_at
/-- What the stretch leaves in the buffer the name gives. -/
theorem s0_cst_12  : e0 (StableHlo.after hostOps0 W (Proc.devRef .tc main_cst_12))  = wide := by
  after_reads_at
  rfl
/-- What the stretch leaves in the buffer the name gives. -/
theorem s1_v67 (j : Fin 5000) : e1 (StableHlo.after hostOps0_1 W (Proc.devRef .tc main_v67)) j = min (e0 (W (Proc.devRef .tc main_cst_12))) (max (e0 (W (Proc.devRef .tc main_cst_11))) (e1 (W (Proc.devRef .tc main_v66)) j)) := by
  after_reads_at
  rfl
/-- What the stretch leaves in the buffer the name gives. -/
theorem s3_v70 (j : Fin 5000) : e1 (StableHlo.after hostOps0_3 W (Proc.devRef .tc main_v70)) j = min (e0 (W (Proc.devRef .tc main_cst_14))) (max (e0 (W (Proc.devRef .tc main_cst_13))) (e1 (W (Proc.devRef .tc main_v69)) j)) := by
  after_reads_at
  rfl
/-- What the stretch leaves in the buffer the name gives. -/
theorem s5_v73 (j : Fin 5000) : e1 (StableHlo.after hostOps0_5 W (Proc.devRef .tc main_v73)) j = min (e0 (W (Proc.devRef .tc main_cst_16))) (max (e0 (W (Proc.devRef .tc main_cst_15))) (e1 (W (Proc.devRef .tc main_v72)) j)) := by
  after_reads_at
  rfl
/-- What the stretch leaves in the buffer the name gives. -/
theorem s7_v76 (j : Fin 5000) : e1 (StableHlo.after hostOps0_7 W (Proc.devRef .tc main_v76)) j = min (e0 (W (Proc.devRef .tc main_cst_18))) (max (e0 (W (Proc.devRef .tc main_cst_17))) (e1 (W (Proc.devRef .tc main_v75)) j)) := by
  after_reads_at
  rfl
/-- What the stretch leaves in the buffer the name gives. -/
theorem s2_v69 (j : Fin 5000) : e1 (StableHlo.after hostOps0_2 W (Proc.devRef .tc main_v69)) j = e4 (W (Proc.devRef .tc main_v64)) j 1 := by
  after_reads_at
  rfl
/-- What the stretch leaves in the buffer the name gives. -/
theorem s2_cst_13  : e0 (StableHlo.after hostOps0_2 W (Proc.devRef .tc main_cst_13))  = 0 := by
  after_reads_at
/-- What the stretch leaves in the buffer the name gives. -/
theorem s2_cst_14  : e0 (StableHlo.after hostOps0_2 W (Proc.devRef .tc main_cst_14))  = high := by
  after_reads_at
  rfl
/-- What the stretch leaves in the buffer the name gives. -/
theorem s4_v72 (j : Fin 5000) : e1 (StableHlo.after hostOps0_4 W (Proc.devRef .tc main_v72)) j = e4 (W (Proc.devRef .tc main_v64)) j 2 := by
  after_reads_at
  rfl
/-- What the stretch leaves in the buffer the name gives. -/
theorem s4_cst_15  : e0 (StableHlo.after hostOps0_4 W (Proc.devRef .tc main_cst_15))  = 0 := by
  after_reads_at
/-- What the stretch leaves in the buffer the name gives. -/
theorem s4_cst_16  : e0 (StableHlo.after hostOps0_4 W (Proc.devRef .tc main_cst_16))  = wide := by
  after_reads_at
  rfl
/-- What the stretch leaves in the buffer the name gives. -/
theorem s6_v75 (j : Fin 5000) : e1 (StableHlo.after hostOps0_6 W (Proc.devRef .tc main_v75)) j = e4 (W (Proc.devRef .tc main_v64)) j 3 := by
  after_reads_at
  rfl
/-- What the stretch leaves in the buffer the name gives. -/
theorem s6_cst_17  : e0 (StableHlo.after hostOps0_6 W (Proc.devRef .tc main_cst_17))  = 0 := by
  after_reads_at
/-- What the stretch leaves in the buffer the name gives. -/
theorem s6_cst_18  : e0 (StableHlo.after hostOps0_6 W (Proc.devRef .tc main_cst_18))  = high := by
  after_reads_at
  rfl
/-- What the stretch leaves in the buffer the name gives. -/
theorem s8_v81_0 (j : Fin 5000) : e4 (StableHlo.after hostOps0_8 W (Proc.devRef .tc main_v81)) j 0 = e1 (W (Proc.devRef .tc main_v67)) j := by
  after_reads_at
  after_reads_at
/-- What the stretch leaves in the buffer the name gives. -/
theorem s8_v81_1 (j : Fin 5000) : e4 (StableHlo.after hostOps0_8 W (Proc.devRef .tc main_v81)) j 1 = e1 (W (Proc.devRef .tc main_v70)) j := by
  after_reads_at
  after_reads_at
/-- What the stretch leaves in the buffer the name gives. -/
theorem s8_v81_2 (j : Fin 5000) : e4 (StableHlo.after hostOps0_8 W (Proc.devRef .tc main_v81)) j 2 = e1 (W (Proc.devRef .tc main_v73)) j := by
  after_reads_at
  after_reads_at
/-- What the stretch leaves in the buffer the name gives. -/
theorem s8_v81_3 (j : Fin 5000) : e4 (StableHlo.after hostOps0_8 W (Proc.devRef .tc main_v81)) j 3 = e1 (W (Proc.devRef .tc main_v76)) j := by
  after_reads_at
  after_reads_at
/-- The conjunction of two bits. -/
theorem andi_bits (p q : Bool) : IntOp.andi (BitVec.ofBool p) (BitVec.ofBool q) = BitVec.ofBool (p && q) := by
  cases p <;> cases q <;> rfl
/-- The greatest of two numbers, as the reduction and its bottom give it. -/
theorem fold_two (f : Fin 2 → EReal) : max (Ideal.ofBits .f32 0xFF800000#32)
    (Finset.fold max (Ideal.ofBits .f32 0xFF800000#32) f Finset.univ) = max (f 0) (f 1) := by
  have e : Ideal.ofBits .f32 0xFF800000#32 = ⊥ := by simp [Ideal.ofBits, Ideal.ieee]
  rw [e, show (Finset.univ : Finset (Fin 2)) = {0, 1} from rfl, Finset.fold_insert (by decide), Finset.fold_singleton]
  simp
/-- The class probability as the stretch's term gives it. -/
theorem prob_eq (f : Fin 2 → EReal) : Ideal.div (Ideal.exp (f 1 - max (Ideal.ofBits .f32 0xFF800000#32) (Finset.fold max (Ideal.ofBits .f32 0xFF800000#32) f Finset.univ)))
    (∑ x, Ideal.exp (f x - max (Ideal.ofBits .f32 0xFF800000#32) (Finset.fold max (Ideal.ofBits .f32 0xFF800000#32) f Finset.univ))) = prob (f 0) (f 1) := by
  rw [fold_two, Fin.sum_univ_two]; rfl
/-- What the stretch leaves in the buffer the name gives. -/
theorem s8_v116 (j : Fin 5000) : e1 (StableHlo.after hostOps0_8 W (Proc.devRef .tc main_v116)) j = score (e2 (W (Proc.devRef .tc main_arg0)) j 0) (e2 (W (Proc.devRef .tc main_arg0)) j 1) (e1 (W (Proc.devRef .tc main_arg2)) j) := by
  after_reads_at
  rw [prob_eq (fun x => (W (Proc.devRef .tc main_arg0) : Vec Ideal S5000x2 .f32) (ix2 j x))]
  unfold score
  rw [sub_eq_add_neg, zero_add]
/-- Which boxes the stretch marks valid. -/
theorem s8_v119 (j : Fin 5000) : b1 (StableHlo.after hostOps0_8 W (Proc.devRef .tc main_v119)) j = 1#1 ↔
    (small ≤ e1 (W (Proc.devRef .tc main_v73)) j - e1 (W (Proc.devRef .tc main_v67)) j ∧ small ≤ e1 (W (Proc.devRef .tc main_v76)) j - e1 (W (Proc.devRef .tc main_v70)) j) ∧ least < prob (e2 (W (Proc.devRef .tc main_arg0)) j 0) (e2 (W (Proc.devRef .tc main_arg0)) j 1) := by
  after_reads_at
  after_reads_at
  rw [prob_eq (fun x => (W (Proc.devRef .tc main_arg0) : Vec Ideal S5000x2 .f32) (ix2 j x)), andi_bits, andi_bits, ofBool_eq_one]
  simp only [Bool.and_eq_true, decide_eq_true_eq]
  rfl
/-- What the stretch leaves in the buffer the name gives. -/
theorem s8_cst_27  : e0 (StableHlo.after hostOps0_8 W (Proc.devRef .tc main_cst_27))  = low := by
  after_reads_at
  rfl
/-- What the stretch leaves in the buffer the name gives. -/
theorem s9_v120 (j : Fin 5000) : e1 (StableHlo.after hostOps0_9 W (Proc.devRef .tc main_v120)) j = if b1 (W (Proc.devRef .tc main_v119)) j = 1#1 then e1 (W (Proc.devRef .tc main_v116)) j else e0 (W (Proc.devRef .tc main_cst_27)) := by
  after_reads_at
  rfl
/-- What the stretch leaves in the buffer the name gives. -/
theorem s10_v121 (j : Fin 5000) : e1 (StableHlo.after hostOps0_10 W (Proc.devRef .tc main_v121)) j = - e1 (W (Proc.devRef .tc main_v120)) j := by
  after_reads_at
end Cert.ReferenceIdeal.Own
end
-- ==== Proof.RSort.lean ====
module

public import proofs.«01_k».proof.Proof.RSeg
public import proofs.«01_k».proof.Proof.Order
public import Idealize.ShloMosaic.Lib.Routing.OpsSet

/-!
# The reference's sort, its table of overlaps, and its selection, read at an index
-/

@[expose] public section
set_option maxRecDepth 65536
noncomputable section
namespace Cert.ReferenceIdeal.Own
open Idealize.ShloMosaic Idealize.ShloMosaic.TcCoe
open Cert.Nms
open Cert.ReferenceIdeal Cert.ReferenceIdeal.Gen Cert.ReferenceIdeal.Value
variable (W : Valuation τ sig (Elt Ideal))
/-- The comparison the sort makes of two places. -/
def ordR (v : Vec Ideal S5000 .f32) (k k' : Fin 5000) : Bool :=
  comparator_f32_i32_d0 (F := Ideal) (v (ix1 k), BitVec.ofNat 32 k.val) (v (ix1 k'), BitVec.ofNat 32 k'.val) == 1#1

/-- The comparison is that of the keys. -/
theorem ordR_iff (v : Vec Ideal S5000 .f32) (k k' : Fin 5000) : ordR v k k' = true ↔ (v (ix1 k) : EReal) < v (ix1 k') := by
  have hz : ∀ a : Ideal .f32, Scalar.select (FloatOps.cmpf (F := Ideal) (φ := .f32) .une a a) (FloatOps.ofBits .f32 0x7FC00000#32)
      (Scalar.select (FloatOps.cmpf (F := Ideal) (φ := .f32) .oeq a (FloatOps.ofBits .f32 0x00000000#32)) (FloatOps.ofBits .f32 0x00000000#32) a) = a := by
    intro a
    have z : (FloatOps.ofBits .f32 0x00000000#32 : Ideal .f32) = (0 : EReal) := Ideal.ofBits_zero_f32
    rw [z]
    have h1 : FloatOps.cmpf (F := Ideal) (φ := .f32) .une a a = 0#1 := by
      show BitVec.ofBool (decide (a ≠ a)) = 0#1
      simp
    have h2 : FloatOps.cmpf (F := Ideal) (φ := .f32) .oeq a (0 : EReal) = BitVec.ofBool (decide (a = 0)) := rfl
    rw [h1, h2]
    by_cases h : a = 0
    · subst h; simp [Scalar.select]
    · simp [Scalar.select, h]
  unfold ordR comparator_f32_i32_d0
  dsimp only
  rw [hz, hz, beq_iff_eq]
  show BitVec.ofBool (decide ((v (ix1 k) : EReal) < v (ix1 k'))) = 1#1 ↔ _
  rw [ofBool_eq_one, decide_eq_true_iff]

/-- The box that the sort puts at a place. -/
def sigma (v : Vec Ideal S5000 .f32) : Fin 5000 → Fin 5000 := sortedFrom (ordR v)

/-- A vector's index by its coordinate. -/
theorem ofFin_ix1 (k : Fin 5000) : (Shape.Idx.ofFin k : S5000.Idx) = ix1 k := by
  funext a
  match a with
  | ⟨0, _⟩ => rfl

/-- A sort of pairs, read at a place of its second array. -/
theorem sort2_at (cmp : Ideal .f32 × BitVec 32 → Ideal .f32 × BitVec 32 → BitVec 1) (v : Vec Ideal S5000 .f32) (y : IVec S5000 32) (p : Fin 5000) :
    (Host.sort2 S5000 0 cmp v y).2 (ix1 p)
      = y (ix1 (sortedFrom (fun k k' => cmp (v (ix1 k), y (ix1 k)) (v (ix1 k'), y (ix1 k')) == 1#1) p)) := by
  have e : ∀ k : Fin 5000, (ix1 p : S5000.Idx).along (⟨0, Nat.one_pos⟩ : Fin S5000.rank) k = ix1 k := fun k => by
    funext a
    match a with
    | ⟨0, _⟩ => rfl
  have h : (0 : ℕ) < S5000.rank := Nat.one_pos
  unfold Host.sort2
  rw [dif_pos h]
  show y ((ix1 p : S5000.Idx).along (⟨0, Nat.one_pos⟩ : Fin S5000.rank) _) = _
  refine (congrArg y (e _)).trans ?_
  refine congrArg (fun R => y (ix1 (sortedFrom R p))) ?_
  funext k k'
  exact congrArg₂ (fun a b => cmp (v a, y a) (v b, y b) == 1#1) (e k) (e k')

/-- The stretch's sort leaves the boxes' numbers in order. -/
theorem s11_v122 (p : Fin 5000) : w1 (StableHlo.after hostOps0_11 W (Proc.devRef .tc main_v122)) p
    = BitVec.ofNat 32 (sigma (W (Proc.devRef .tc main_v121)) p).val := by
  refine Eq.trans ?_ (sort2_at comparator_f32_i32_d0 (W (Proc.devRef .tc main_v121)) (iotaInDim S5000 32 0) p)
  after_reads_at

/-- A wrapped word of a number below 5000 is the word. -/
theorem wrap_word (w : BitVec 32) (a : ℕ) (ha : a < 5000) (h : w = BitVec.ofNat 32 a) (u : BitVec 32) :
    Scalar.select (IntOp.cmpi CmpIPredicate.slt w 0#32) u w = BitVec.ofNat 32 a := by
  subst h
  have e : (BitVec.ofNat 32 a).toNat = a := by
    rw [BitVec.toNat_ofNat]
    exact Nat.mod_eq_of_lt (by omega)
  have e' : (BitVec.ofNat 32 a).toNat < 2 ^ (32 - 1) := by
    rw [e]
    omega
  exact Routing.wrap_of_lt (w := 32) (BitVec.ofNat 32 a) u e'

section sorted
variable (σ : Fin 5000 → Fin 5000) (hσ : ∀ p, w1 (W (Proc.devRef .tc main_v122)) p = BitVec.ofNat 32 (σ p).val)
include hσ

/-- The rows of the boxes in sorted order. -/
theorem gat4 (x : Vec Ideal S5000x4 .f32) (p : Fin 5000) (k : Fin 4) :
    Host.gather gather_S5000x4_S5000x1_S5000x4_1_0_n_n_0_1_14 x
      (broadcastInDim S5000x1 ![0] bcast_S5000_S5000x1_0
        (select
          (cmpi CmpIPredicate.slt (W (Proc.tc.devRef main_v122)) (broadcastInDim S5000 ![] bcast_S_S5000 (constantI S_ 32 0#32)))
          (addi (W (Proc.tc.devRef main_v122)) (broadcastInDim S5000 ![] bcast_S_S5000 (constantI S_ 32 5000#32)))
          (W (Proc.tc.devRef main_v122)))) (ix2 p k) = x (ix2 (σ p) k) := by
  refine Routing.gather_row _ rfl rfl rfl rfl rfl x _ p k (σ p) ?_ (by norm_num)
  pointwise
  exact wrap_word _ _ (σ p).isLt (hσ p) _

/-- A mask in sorted order. -/
theorem gat1 (x : IVec S5000 1) (p : Fin 5000) :
    Host.gather gather_S5000_S5000x1_S5000_n_0_n_n_0_1_1 x
      (broadcastInDim S5000x1 ![0] bcast_S5000_S5000x1_0
        (select
          (cmpi CmpIPredicate.slt (W (Proc.tc.devRef main_v122)) (broadcastInDim S5000 ![] bcast_S_S5000 (constantI S_ 32 0#32)))
          (addi (W (Proc.tc.devRef main_v122)) (broadcastInDim S5000 ![] bcast_S_S5000 (constantI S_ 32 5000#32)))
          (W (Proc.tc.devRef main_v122)))) (ix1 p) = x (ix1 (σ p)) := by
  refine Routing.gather_take1 _ rfl rfl rfl rfl x _ p (σ p) ?_ (by norm_num)
  pointwise
  exact wrap_word _ _ (σ p).isLt (hσ p) _

/-- The sides two boxes share, before the cut at zero. -/
theorem s12_v155 (p q : Fin 5000) (d : Fin 2) :
    (id ((StableHlo.after hostOps0_12 W (Proc.devRef .tc main_v155) : Vec Ideal S5000x5000x2 .f32) (ix3 p q d)) : EReal)
    = min (e4 (W (Proc.devRef .tc main_v81)) (σ p) ⟨2 + d.val, by omega⟩) (e4 (W (Proc.devRef .tc main_v81)) (σ q) ⟨2 + d.val, by omega⟩)
      - max (e4 (W (Proc.devRef .tc main_v81)) (σ p) ⟨d.val, by omega⟩) (e4 (W (Proc.devRef .tc main_v81)) (σ q) ⟨d.val, by omega⟩) := by
  after_reads_at
  rw [gat4 W σ hσ, gat4 W σ hσ, gat4 W σ hσ, gat4 W σ hσ]
  rfl

/-- The areas in sorted order. -/
theorem s12_v140 (p : Fin 5000) : e1 (StableHlo.after hostOps0_12 W (Proc.devRef .tc main_v140)) p
    = (e4 (W (Proc.devRef .tc main_v81)) (σ p) 2 - e4 (W (Proc.devRef .tc main_v81)) (σ p) 0)
      * (e4 (W (Proc.devRef .tc main_v81)) (σ p) 3 - e4 (W (Proc.devRef .tc main_v81)) (σ p) 1) := by
  after_reads_at
  rw [gat4 W σ hσ, gat4 W σ hσ, gat4 W σ hσ, gat4 W σ hσ]

/-- The validity in sorted order. -/
theorem s14_v179_4 (p : Fin 5000) : b1 (StableHlo.after hostOps0_14 W (Proc.devRef .tc main_v179_4)) p
    = b1 (W (Proc.devRef .tc main_v119)) (σ p) := by
  after_reads_at
  exact gat1 W σ hσ _ p

end sorted
/-- The shared sides are cut at zero. -/
theorem s12_cst : e0 (StableHlo.after hostOps0_12 W (Proc.devRef .tc main_cst_29)) = 0 := by
  after_reads_at
/-- The cut at zero. -/
theorem s13_v156 (p q : Fin 5000) (d : Fin 2) :
    (id ((StableHlo.after hostOps0_13 W (Proc.devRef .tc main_v156) : Vec Ideal S5000x5000x2 .f32) (ix3 p q d)) : EReal)
    = max (e0 (W (Proc.devRef .tc main_cst_29))) ((W (Proc.devRef .tc main_v155) : Vec Ideal S5000x5000x2 .f32) (ix3 p q d)) := by
  after_reads_at
  rfl
/-- The overlap of two boxes in sorted order. -/
theorem s14_v179_0 (p q : Fin 5000) :
    (id ((StableHlo.after hostOps0_14 W (Proc.devRef .tc main_v179_0) : Vec Ideal S5000x5000 .f32) (ix2 p q)) : EReal)
    = Ideal.div ((id ((W (Proc.devRef .tc main_v156) : Vec Ideal S5000x5000x2 .f32) (ix3 p q 0)) : EReal)
          * (id ((W (Proc.devRef .tc main_v156) : Vec Ideal S5000x5000x2 .f32) (ix3 p q 1)) : EReal))
        (((e1 (W (Proc.devRef .tc main_v140)) p + e1 (W (Proc.devRef .tc main_v140)) q)
          - (id ((W (Proc.devRef .tc main_v156) : Vec Ideal S5000x5000x2 .f32) (ix3 p q 0)) : EReal)
            * (id ((W (Proc.devRef .tc main_v156) : Vec Ideal S5000x5000x2 .f32) (ix3 p q 1)) : EReal))
          + Ideal.ofBits .f32 0x3089705F#32) := by
  after_reads_at
  simp only [id]
  pointwise
  all_goals rfl

/-- The loop starts with the places' own numbers. -/
theorem s14_v179_1 (p : Fin 5000) : w1 (StableHlo.after hostOps0_14 W (Proc.devRef .tc main_v179_1)) p = BitVec.ofNat 32 p.val := by
  after_reads_at
  all_goals rfl

/-- The loop's first counter starts at zero. -/
theorem s14_v179_2 : (StableHlo.after hostOps0_14 W (Proc.devRef .tc main_v179_2) : IVec S_ 32) ix0 = 0#32 := by
  after_reads_at
  all_goals rfl

/-- The loop's second counter starts at zero. -/
theorem s14_v179_3 : (StableHlo.after hostOps0_14 W (Proc.devRef .tc main_v179_3) : IVec S_ 32) ix0 = 0#32 := by
  after_reads_at
  all_goals rfl

end Cert.ReferenceIdeal.Own
end
-- ==== Proof.Greedy.lean ====
module

public import proofs.«01_k».proof.Proof.Fix

/-!
# One pass of suppression in order

A pass that visits the places in order, and at each kept place drops the later ones it suppresses, ends at the marks that the
rule itself describes.
-/

@[expose] public section
noncomputable section
namespace Cert.Nms

variable {N : ℕ} (K : ℕ → Fin N → Prop) (B : Fin N → Fin N → Prop)

/-- What is kept after some visits: what was kept at first and no visited kept place suppresses. -/
theorem pass_at (h : ∀ (n : ℕ) (hn : n < N) p, K (n + 1) p ↔ K n p ∧ ¬ (B ⟨n, hn⟩ p ∧ n < p.val ∧ K n ⟨n, hn⟩)) :
    ∀ n, n ≤ N → ∀ p, K n p ↔ K 0 p ∧ ¬ ∃ q : Fin N, q.val < n ∧ B q p ∧ q.val < p.val ∧ K q.val q := by
  intro n
  induction n with
  | zero =>
    intro _ p
    exact ⟨fun h => ⟨h, fun ⟨q, hq, _⟩ => absurd hq (Nat.not_lt_zero _)⟩, fun h => h.1⟩
  | succ n ih =>
    intro hn p
    rw [h n hn p, ih (by omega) p]
    constructor
    · rintro ⟨⟨h0, h1⟩, h2⟩
      refine ⟨h0, ?_⟩
      rintro ⟨q, hq, hb, hp, hk⟩
      rcases Nat.lt_succ_iff_lt_or_eq.mp hq with hlt | heq
      · exact h1 ⟨q, hlt, hb, hp, hk⟩
      · have e : q = ⟨n, hn⟩ := Fin.ext heq
        subst e
        exact h2 ⟨hb, hp, hk⟩
    · rintro ⟨h0, h1⟩
      refine ⟨⟨h0, ?_⟩, ?_⟩
      · rintro ⟨q, hq, hb, hp, hk⟩
        exact h1 ⟨q, by omega, hb, hp, hk⟩
      · rintro ⟨hb, hp, hk⟩
        exact h1 ⟨⟨n, hn⟩, Nat.lt_succ_self _, hb, hp, hk⟩

/-- The marks at the end are the ones the rule describes. -/
theorem pass_end (h : ∀ (n : ℕ) (hn : n < N) p, K (n + 1) p ↔ K n p ∧ ¬ (B ⟨n, hn⟩ p ∧ n < p.val ∧ K n ⟨n, hn⟩)) (p : Fin N) :
    K N p ↔ K 0 p ∧ ¬ ∃ q, K N q ∧ (B q p ∧ q.val < p.val) := by
  have e : ∀ q : Fin N, K N q ↔ K q.val q := by
    intro q
    rw [pass_at K B h N le_rfl q, pass_at K B h q.val q.isLt.le q]
    constructor
    · rintro ⟨h0, h1⟩
      exact ⟨h0, fun ⟨r, _, hb, hl, hk⟩ => h1 ⟨r, r.isLt, hb, hl, hk⟩⟩
    · rintro ⟨h0, h1⟩
      exact ⟨h0, fun ⟨r, _, hb, hl, hk⟩ => h1 ⟨r, hl, hb, hl, hk⟩⟩
  rw [pass_at K B h N le_rfl p]
  constructor
  · rintro ⟨h0, h1⟩
    exact ⟨h0, fun ⟨q, hk, hb, hl⟩ => h1 ⟨q, q.isLt, hb, hl, (e q).mp hk⟩⟩
  · rintro ⟨h0, h1⟩
    exact ⟨h0, fun ⟨q, _, hb, hl, hk⟩ => h1 ⟨q, (e q).mpr hk, hb, hl⟩⟩

end Cert.Nms
end
-- ==== Proof.RLoop.lean ====
module

public import proofs.«01_k».proof.Proof.RSort
public import proofs.«01_k».proof.Proof.Greedy
public import Idealize.ShloMosaic.Lib.DynamicIndex
public import Idealize.ShloMosaic.Lib.Routing.OpsSet

/-!
# The reference's loop of suppression
-/

@[expose] public section
set_option maxRecDepth 65536
noncomputable section
namespace Cert.ReferenceIdeal.Own
open Idealize.ShloMosaic Idealize.ShloMosaic.TcCoe
open Cert.Nms Idealize.ShloMosaic.StableHlo Idealize.SL.Sem
open Cert.ReferenceIdeal Cert.ReferenceIdeal.Gen Cert.ReferenceIdeal.Value
variable (W : Valuation τ sig (Elt Ideal))
/-- The running number, wrapped and read signed. -/
theorem wrap_int (t : Fin 5000) (u : BitVec 32) :
    (Scalar.select (IntOp.cmpi CmpIPredicate.slt (BitVec.ofNat 32 t.val) 0#32) u (BitVec.ofNat 32 t.val)).toInt = (t.val : Int) := by
  rw [wrap_word _ _ t.isLt rfl]
  exact toInt_ofNat_of_lt (by omega)

/-- One bit kept unless three bits hold. -/
theorem bit_drop (k a b d : BitVec 1) :
    IntOp.andi k (~~~IntOp.andi (IntOp.andi a b) d) = 1#1 ↔ k = 1#1 ∧ ¬ (a = 1#1 ∧ b = 1#1 ∧ d = 1#1) := by
  revert k a b d
  decide

/-- A greater number below 5000, as words. -/
theorem sgt_word (p t : Fin 5000) :
    IntOp.cmpi CmpIPredicate.sgt (BitVec.ofNat 32 p.val) (BitVec.ofNat 32 t.val) = 1#1 ↔ t.val < p.val := by
  show BitVec.ofBool ((BitVec.ofNat 32 t.val).slt (BitVec.ofNat 32 p.val)) = 1#1 ↔ _
  rw [ofBool_eq_one]
  unfold BitVec.slt
  rw [toInt_ofNat_of_lt (by omega), toInt_ofNat_of_lt (by omega), decide_eq_true_iff]
  omega

/-- The loop body's marks, of any table, numbers and marks. -/
theorem trip_bit (T : Vec Ideal S5000x5000 .f32) (I : IVec S5000 32) (i : IVec S_ 32) (K : IVec S5000 1)
    (st : Fin 2 → Int) (st1 : Fin 1 → Int) (t p : Fin 5000) (h0 : st 0 = (t.val : Int)) (h1 : st 1 = (0 : Nat)) (h2 : st1 0 = (t.val : Int))
    (hi : i ix0 = BitVec.ofNat 32 t.val) (hI : I (ix1 p) = BitVec.ofNat 32 p.val) :
    andi K (noti (andi (andi (cmpf .ogt (shapeCast S5000 (Host.dynamicSlice S1x5000 T st sliceFits_S5000x5000_S1x5000) shapeCasts_S1x5000_S5000)
        (broadcastInDim S5000 ![] bcast_S_S5000 (constant (F := Ideal) S_ .f32 0x3F000000#32)))
      (cmpi .sgt I (broadcastInDim S5000 ![] bcast_S_S5000 i)))
      (broadcastInDim S5000 ![] bcast_S_S5000 (shapeCast S_ (Host.dynamicSlice S1 K st1 sliceFits_S5000_S1) shapeCasts_S1_S_)))) (ix1 p) = 1#1 ↔
      K (ix1 p) = 1#1 ∧ ¬ (half < (id (T (ix2 t p)) : EReal) ∧ t.val < p.val ∧ K (ix1 t) = 1#1) := by
  have c0 := fun h => Host.clampedStart_of_le (s := S5000x5000) (t := S1x5000) h st 0 t.val h0 (by show t.val + 1 ≤ 5000; omega)
  have c1 := fun h => Host.clampedStart_of_le (s := S5000x5000) (t := S1x5000) h st 1 0 h1 (by show 0 + 5000 ≤ 5000; omega)
  have c2 := fun h => Host.clampedStart_of_le (s := S5000) (t := S1) h st1 0 t.val h2 (by show t.val + 1 ≤ 5000; omega)
  pointwise
  rw [bit_drop]
  simp only [c0, c1, c2, Nat.zero_add, hi, hI, sgt_word, ofBool_eq_one, decide_eq_true_iff]
  rfl

/-- A trip's marks: a mark stays unless the trip's own box is kept, comes before, and overlaps by more than half. -/
theorem trip_at (t : Fin 5000) (hi : (W (Proc.devRef .tc main_v179_3) : IVec S_ 32) = fun _ => BitVec.ofNat 32 t.val)
    (hI : ∀ p, w1 (W (Proc.devRef .tc main_v179_1)) p = BitVec.ofNat 32 p.val) (p : Fin 5000) :
    b1 (afterL bodyI W (Proc.devRef .tc main_v179_4)) p = 1#1 ↔
      b1 (W (Proc.devRef .tc main_v179_4)) p = 1#1
      ∧ ¬ (half < (id ((W (Proc.devRef .tc main_v179_0) : Vec Ideal S5000x5000 .f32) (ix2 t p)) : EReal) ∧ t.val < p.val
        ∧ b1 (W (Proc.devRef .tc main_v179_4)) t = 1#1) := by
  rw [trip_main_v179_4]
  unfold res_main_while0b_v206
  simp only [id, hi]
  refine trip_bit (W (Proc.devRef .tc main_v179_0)) (W (Proc.devRef .tc main_v179_1)) (fun _ => BitVec.ofNat 32 t.val)
    (W (Proc.devRef .tc main_v179_4)) _ _ t p ?_ ?_ ?_ rfl (hI p)
  · exact wrap_int t _
  · show (Scalar.select (IntOp.cmpi CmpIPredicate.slt 0#32 0#32) (IntOp.addi 0#32 5000#32) 0#32).toInt = ((0 : Nat) : Int)
    decide
  · exact wrap_int t _

variable (W₀ : Dev nD → Valuation τ sig (Elt Ideal)) (c : Dev nD)

/-- What a trip's condition does not write, it keeps. -/
theorem cond_keep (V : Valuation τ sig (Elt Ideal)) (r : Ref sig .tc) (h : r ∉ condOps_W) :
    after condOps V (Proc.devRef .tc r) = V (Proc.devRef .tc r) := after_of_writes_sub condOps _ condOps_writes h

/-- The running number after some trips. -/
theorem trips_i (h0 : (W₀ c (Proc.devRef .tc main_v179_3) : IVec S_ 32) ix0 = 0#32) :
    ∀ n, (atTrip condOps bodyI W₀ n c (Proc.devRef .tc main_v179_3) : IVec S_ 32) = fun _ => BitVec.ofNat 32 n
  | 0 => by
    funext j
    have e : ∀ j : S_.Idx, j = ix0 := fun j => funext fun a => a.elim0
    exact (congrArg (W₀ c (Proc.devRef .tc main_v179_3) : IVec S_ 32) (e j)).trans h0
  | n + 1 => by
    have ih := trips_i h0 n
    rw [atTrip_succ, trip_main_v179_3, cond_keep _ main_v179_3 (by decide)]
    funext j
    show IntOp.addi ((atTrip condOps bodyI W₀ n c (Proc.devRef .tc main_v179_3) : IVec S_ 32) j) 1#32 = _
    rw [ih]
    show BitVec.ofNat 32 n + 1#32 = _
    rw [BitVec.ofNat_add]

/-- The places' numbers stay. -/
theorem trips_1 : ∀ n, atTrip condOps bodyI W₀ n c (Proc.devRef .tc main_v179_1) = W₀ c (Proc.devRef .tc main_v179_1)
  | 0 => rfl
  | n + 1 => by rw [atTrip_succ, trip_main_v179_1, cond_keep _ main_v179_1 (by decide), trips_1 n]

/-- The table stays. -/
theorem trips_0 : ∀ n, atTrip condOps bodyI W₀ n c (Proc.devRef .tc main_v179_0) = W₀ c (Proc.devRef .tc main_v179_0)
  | 0 => rfl
  | n + 1 => by rw [atTrip_succ, trip_main_v179_0, cond_keep _ main_v179_0 (by decide), trips_0 n]

/-- The marks after all trips: the valid places that no kept place before them overlaps by more than half. -/
theorem trips_4 (h0 : (W₀ c (Proc.devRef .tc main_v179_3) : IVec S_ 32) ix0 = 0#32)
    (h1 : ∀ p, w1 (W₀ c (Proc.devRef .tc main_v179_1)) p = BitVec.ofNat 32 p.val) (p : Fin 5000) :
    b1 (atTrip condOps bodyI W₀ 5000 c (Proc.devRef .tc main_v179_4)) p = 1#1 ↔
      b1 (W₀ c (Proc.devRef .tc main_v179_4)) p = 1#1
      ∧ ¬ ∃ q, b1 (atTrip condOps bodyI W₀ 5000 c (Proc.devRef .tc main_v179_4)) q = 1#1
        ∧ (half < (id ((W₀ c (Proc.devRef .tc main_v179_0) : Vec Ideal S5000x5000 .f32) (ix2 q p)) : EReal) ∧ q.val < p.val) := by
  refine pass_end (fun n p => b1 (atTrip condOps bodyI W₀ n c (Proc.devRef .tc main_v179_4)) p = 1#1)
    (fun q p => half < (id ((W₀ c (Proc.devRef .tc main_v179_0) : Vec Ideal S5000x5000 .f32) (ix2 q p)) : EReal)) ?_ p
  intro n hn p
  show b1 (atTrip condOps bodyI W₀ (n + 1) c (Proc.devRef .tc main_v179_4)) p = 1#1 ↔ _
  rw [atTrip_succ]
  refine (trip_at (after condOps (atTrip condOps bodyI W₀ n c)) ⟨n, hn⟩ ?_ ?_ p).trans ?_
  · rw [cond_keep _ main_v179_3 (by decide)]
    exact trips_i W₀ c h0 n
  · intro q
    rw [cond_keep _ main_v179_1 (by decide), trips_1]
    exact h1 q
  · rw [cond_keep _ main_v179_4 (by decide), cond_keep _ main_v179_0 (by decide), trips_0]

end Cert.ReferenceIdeal.Own
end
-- ==== Proof.RPost.lean ====
module

public import proofs.«01_k».proof.Proof.RSort
public import Idealize.ShloMosaic.Lib.DynamicIndex
public import Idealize.ShloMosaic.Lib.Routing.OpsSet

/-!
# The reference's stretches after its loop, read at an index
-/

@[expose] public section
set_option maxRecDepth 65536
noncomputable section
namespace Cert.ReferenceIdeal.Own
open Idealize.ShloMosaic Idealize.ShloMosaic.TcCoe
open Cert.Nms Idealize.ShloMosaic.StableHlo Idealize.SL.Sem
open Cert.ReferenceIdeal Cert.ReferenceIdeal.Gen Cert.ReferenceIdeal.Value
variable (W : Valuation τ sig (Elt Ideal))
section scattered
variable (σ : Fin 5000 → Fin 5000) (hσ : ∀ p, w1 (W (Proc.devRef .tc main_v122)) p = BitVec.ofNat 32 (σ p).val)
include hσ

/-- The marks put back at the boxes' own numbers. -/
theorem scat1 (hinj : Function.Injective σ) (x0 u : IVec S5000 1) (p : Fin 5000) :
    Host.scatter scatter_S5000_S5000x1_S5000_n_0_0_1 (fun _ b => b) x0
      (broadcastInDim S5000x1 ![0] bcast_S5000_S5000x1_0
        (select
          (cmpi CmpIPredicate.slt (W (Proc.tc.devRef main_v122)) (broadcastInDim S5000 ![] bcast_S_S5000 (constantI S_ 32 0#32)))
          (addi (W (Proc.tc.devRef main_v122)) (broadcastInDim S5000 ![] bcast_S_S5000 (constantI S_ 32 5000#32)))
          (W (Proc.tc.devRef main_v122)))) u (ix1 (σ p)) = u (ix1 p) := by
  refine (Routing.scatter_set scatter_S5000_S5000x1_S5000_n_0_0_1 rfl rfl rfl x0 _ u
    (fun n => if h : n < 5000 then (σ ⟨n, h⟩).val else 0) ?_ ?_ (σ p) (u (ix1 p)) ?_).1 ⟨p, ?_⟩
  · intro i
    rw [dif_pos i.isLt]
    pointwise
    exact wrap_word _ _ (σ i).isLt (hσ i) _
  · intro i
    rw [dif_pos i.isLt]
    have := (σ i).isLt
    omega
  · intro i h
    rw [dif_pos i.isLt] at h
    have e : i = p := hinj (Fin.ext h)
    rw [e]
    rfl
  · exact dif_pos p.isLt

/-- The kept and valid boxes. -/
theorem s15_v188 (hinj : Function.Injective σ) (p : Fin 5000) :
    b1 (StableHlo.after hostOps0_15 W (Proc.devRef .tc main_v188)) (σ p)
    = IntOp.andi (b1 (W (Proc.devRef .tc main_v179_4)) p) (b1 (W (Proc.devRef .tc main_v119)) (σ p)) := by
  after_reads_at
  rw [scat1 W σ hσ hinj]

end scattered

/-- The score of a box that is out. -/
theorem s15_cst : e0 (StableHlo.after hostOps0_15 W (Proc.devRef .tc main_cst_38)) = low := by
  after_reads_at
  all_goals rfl

/-- The scores with −1 where the box is out. -/
theorem s16_v189 (p : Fin 5000) : e1 (StableHlo.after hostOps0_16 W (Proc.devRef .tc main_v189)) p
    = Scalar.select (b1 (W (Proc.devRef .tc main_v188)) p) (e1 (W (Proc.devRef .tc main_v116)) p) (e0 (W (Proc.devRef .tc main_cst_38))) := by
  after_reads_at
  all_goals rfl

/-- The comparison the selection makes of two boxes. -/
def ordT (v : Vec Ideal S5000 .f32) (k k' : Fin 5000) : Bool :=
  FloatOps.cmpfTotal (F := Ideal) (φ := .f32) .gt (v (ix1 k)) (v (ix1 k')) == 1#1

/-- The comparison is that of the keys. -/
theorem ordT_iff (v : Vec Ideal S5000 .f32) (k k' : Fin 5000) : ordT v k k' = true ↔ (v (ix1 k') : EReal) < v (ix1 k) := by
  unfold ordT
  rw [beq_iff_eq]
  show BitVec.ofBool (decide ((v (ix1 k') : EReal) < v (ix1 k))) = 1#1 ↔ _
  rw [ofBool_eq_one, decide_eq_true_iff]

/-- The box that the selection puts at a place. -/
def tau (v : Vec Ideal S5000 .f32) : Fin 5000 → Fin 5000 := sortedFrom (ordT v)

/-- The selection's numbers. -/
theorem topK_at (v : Vec Ideal S5000 .f32) (r : Fin 300) :
    (Host.topK S300 0 (FloatOps.cmpfTotal (F := Ideal) (φ := .f32) .gt) v sliceFits_S5000_S300).2 (ix1 r)
      = BitVec.ofNat 32 (tau v ⟨r.val, by omega⟩).val := by
  refine Eq.trans ?_ (sort2_at (fun l r => FloatOps.cmpfTotal (F := Ideal) (φ := .f32) .gt l.1 r.1) v (iotaInDim S5000 32 0) ⟨r.val, by omega⟩)
  unfold Host.topK
  pointwise
  all_goals rfl

/-- A selected number, wrapped. -/
theorem wrap300 (g : IVec S300 32) (r : Fin 300) (a : ℕ) (ha : a < 5000) (h : g (ix1 r) = BitVec.ofNat 32 a) :
    broadcastInDim S300x1 ![0] bcast_S300_S300x1_0
      (select (cmpi CmpIPredicate.slt g (broadcastInDim S300 ![] bcast_S_S300 (constantI S_ 32 0#32)))
        (addi g (broadcastInDim S300 ![] bcast_S_S300 (constantI S_ 32 5000#32))) g) (ix2 r 0) = BitVec.ofNat 32 a := by
  pointwise
  exact wrap_word _ _ ha h _

/-- The boxes' rows at the selected numbers. -/
theorem s17_v196 (r : Fin 300) (k : Fin 4) :
    (id ((StableHlo.after hostOps0_17 W (Proc.devRef .tc main_v196) : Vec Ideal S300x4 .f32) (ix2 r k)) : EReal)
    = e4 (W (Proc.devRef .tc main_v81)) (tau (W (Proc.devRef .tc main_v189)) ⟨r.val, by omega⟩) k := by
  after_reads_at
  refine Routing.gather_row _ rfl rfl rfl rfl rfl _ _ r k (tau (W (Proc.devRef .tc main_v189)) ⟨r.val, by omega⟩) ?_ (by norm_num)
  exact wrap300 _ r _ (Fin.isLt _) (topK_at (W (Proc.devRef .tc main_v189)) r)

/-- The scores at the selected numbers. -/
theorem s17_v203 (r : Fin 300) :
    (id ((StableHlo.after hostOps0_17 W (Proc.devRef .tc main_v203) : Vec Ideal S300 .f32) (ix1 r)) : EReal)
    = e1 (W (Proc.devRef .tc main_v116)) (tau (W (Proc.devRef .tc main_v189)) ⟨r.val, by omega⟩) := by
  after_reads_at
  refine Routing.gather_take1 _ rfl rfl rfl rfl _ _ r (tau (W (Proc.devRef .tc main_v189)) ⟨r.val, by omega⟩) ?_ (by norm_num)
  exact wrap300 _ r _ (Fin.isLt _) (topK_at (W (Proc.devRef .tc main_v189)) r)

/-- The classes. -/
theorem s17_v204 (r : Fin 300) : (StableHlo.after hostOps0_17 W (Proc.devRef .tc main_v204) : IVec S300 32) (ix1 r) = 1#32 := by
  after_reads_at
  all_goals rfl

end Cert.ReferenceIdeal.Own
end
-- ==== Proof.RVal.lean ====
module

public import proofs.«01_k».proof.Proof.RSort
public import proofs.«01_k».proof.Proof.RLoop
public import proofs.«01_k».proof.Proof.RPost
public import Idealize.ShloMosaic.Lib.DynamicIndex
public import Idealize.ShloMosaic.Lib.Routing.OpsSet

/-!
# What the reference leaves, in terms of its arguments
-/

@[expose] public section
set_option maxRecDepth 65536
noncomputable section
namespace Cert.ReferenceIdeal.Own
open Idealize.ShloMosaic Idealize.ShloMosaic.TcCoe
open Cert.Nms Idealize.ShloMosaic.StableHlo Idealize.SL.Sem
open Cert.ReferenceIdeal Cert.ReferenceIdeal.Gen Cert.ReferenceIdeal.Value
variable (V : Valuation τ sig (Elt Ideal))

/-- The reference's arguments. -/
def argsR : Args := ⟨e4 (V (Proc.devRef .tc main_arg3)), e4 (V (Proc.devRef .tc main_arg1)), e2 (V (Proc.devRef .tc main_arg0)), e1 (V (Proc.devRef .tc main_arg2))⟩

/-- The contents after stretch 0. -/
def st0 : Valuation τ sig (Elt Ideal) := after hostOps0 V
/-- What stretch 0 does not write, it keeps. -/
theorem k0 (r : Ref sig .tc) (h : r ∉ hostOps0_W) : st0 V (Proc.devRef .tc r) = V (Proc.devRef .tc r) :=
  after_of_writes_sub hostOps0 _ hostOps0_writes h

/-- The contents after stretch 1. -/
def st1 : Valuation τ sig (Elt Ideal) := after hostOps0_1 (st0 V)
/-- What stretch 1 does not write, it keeps. -/
theorem k1 (r : Ref sig .tc) (h : r ∉ hostOps0_1_W) : st1 V (Proc.devRef .tc r) = (st0 V) (Proc.devRef .tc r) :=
  after_of_writes_sub hostOps0_1 _ hostOps0_1_writes h

/-- The contents after stretch 2. -/
def st2 : Valuation τ sig (Elt Ideal) := after hostOps0_2 (st1 V)
/-- What stretch 2 does not write, it keeps. -/
theorem k2 (r : Ref sig .tc) (h : r ∉ hostOps0_2_W) : st2 V (Proc.devRef .tc r) = (st1 V) (Proc.devRef .tc r) :=
  after_of_writes_sub hostOps0_2 _ hostOps0_2_writes h

/-- The contents after stretch 3. -/
def st3 : Valuation τ sig (Elt Ideal) := after hostOps0_3 (st2 V)
/-- What stretch 3 does not write, it keeps. -/
theorem k3 (r : Ref sig .tc) (h : r ∉ hostOps0_3_W) : st3 V (Proc.devRef .tc r) = (st2 V) (Proc.devRef .tc r) :=
  after_of_writes_sub hostOps0_3 _ hostOps0_3_writes h

/-- The contents after stretch 4. -/
def st4 : Valuation τ sig (Elt Ideal) := after hostOps0_4 (st3 V)
/-- What stretch 4 does not write, it keeps. -/
theorem k4 (r : Ref sig .tc) (h : r ∉ hostOps0_4_W) : st4 V (Proc.devRef .tc r) = (st3 V) (Proc.devRef .tc r) :=
  after_of_writes_sub hostOps0_4 _ hostOps0_4_writes h

/-- The contents after stretch 5. -/
def st5 : Valuation τ sig (Elt Ideal) := after hostOps0_5 (st4 V)
/-- What stretch 5 does not write, it keeps. -/
theorem k5 (r : Ref sig .tc) (h : r ∉ hostOps0_5_W) : st5 V (Proc.devRef .tc r) = (st4 V) (Proc.devRef .tc r) :=
  after_of_writes_sub hostOps0_5 _ hostOps0_5_writes h

/-- The contents after stretch 6. -/
def st6 : Valuation τ sig (Elt Ideal) := after hostOps0_6 (st5 V)
/-- What stretch 6 does not write, it keeps. -/
theorem k6 (r : Ref sig .tc) (h : r ∉ hostOps0_6_W) : st6 V (Proc.devRef .tc r) = (st5 V) (Proc.devRef .tc r) :=
  after_of_writes_sub hostOps0_6 _ hostOps0_6_writes h

/-- The contents after stretch 7. -/
def st7 : Valuation τ sig (Elt Ideal) := after hostOps0_7 (st6 V)
/-- What stretch 7 does not write, it keeps. -/
theorem k7 (r : Ref sig .tc) (h : r ∉ hostOps0_7_W) : st7 V (Proc.devRef .tc r) = (st6 V) (Proc.devRef .tc r) :=
  after_of_writes_sub hostOps0_7 _ hostOps0_7_writes h

/-- The contents after stretch 8. -/
def st8 : Valuation τ sig (Elt Ideal) := after hostOps0_8 (st7 V)
/-- What stretch 8 does not write, it keeps. -/
theorem k8 (r : Ref sig .tc) (h : r ∉ hostOps0_8_W) : st8 V (Proc.devRef .tc r) = (st7 V) (Proc.devRef .tc r) :=
  after_of_writes_sub hostOps0_8 _ hostOps0_8_writes h

/-- The contents after stretch 9. -/
def st9 : Valuation τ sig (Elt Ideal) := after hostOps0_9 (st8 V)
/-- What stretch 9 does not write, it keeps. -/
theorem k9 (r : Ref sig .tc) (h : r ∉ hostOps0_9_W) : st9 V (Proc.devRef .tc r) = (st8 V) (Proc.devRef .tc r) :=
  after_of_writes_sub hostOps0_9 _ hostOps0_9_writes h

/-- The contents after stretch 10. -/
def st10 : Valuation τ sig (Elt Ideal) := after hostOps0_10 (st9 V)
/-- What stretch 10 does not write, it keeps. -/
theorem k10 (r : Ref sig .tc) (h : r ∉ hostOps0_10_W) : st10 V (Proc.devRef .tc r) = (st9 V) (Proc.devRef .tc r) :=
  after_of_writes_sub hostOps0_10 _ hostOps0_10_writes h

/-- The contents after stretch 11. -/
def st11 : Valuation τ sig (Elt Ideal) := after hostOps0_11 (st10 V)
/-- What stretch 11 does not write, it keeps. -/
theorem k11 (r : Ref sig .tc) (h : r ∉ hostOps0_11_W) : st11 V (Proc.devRef .tc r) = (st10 V) (Proc.devRef .tc r) :=
  after_of_writes_sub hostOps0_11 _ hostOps0_11_writes h

/-- The contents after stretch 12. -/
def st12 : Valuation τ sig (Elt Ideal) := after hostOps0_12 (st11 V)
/-- What stretch 12 does not write, it keeps. -/
theorem k12 (r : Ref sig .tc) (h : r ∉ hostOps0_12_W) : st12 V (Proc.devRef .tc r) = (st11 V) (Proc.devRef .tc r) :=
  after_of_writes_sub hostOps0_12 _ hostOps0_12_writes h

/-- The contents after stretch 13. -/
def st13 : Valuation τ sig (Elt Ideal) := after hostOps0_13 (st12 V)
/-- What stretch 13 does not write, it keeps. -/
theorem k13 (r : Ref sig .tc) (h : r ∉ hostOps0_13_W) : st13 V (Proc.devRef .tc r) = (st12 V) (Proc.devRef .tc r) :=
  after_of_writes_sub hostOps0_13 _ hostOps0_13_writes h

/-- The contents after stretch 14. -/
def st14 : Valuation τ sig (Elt Ideal) := after hostOps0_14 (st13 V)
/-- What stretch 14 does not write, it keeps. -/
theorem k14 (r : Ref sig .tc) (h : r ∉ hostOps0_14_W) : st14 V (Proc.devRef .tc r) = (st13 V) (Proc.devRef .tc r) :=
  after_of_writes_sub hostOps0_14 _ hostOps0_14_writes h

/-- The stretches together. -/
theorem st_all : afterL preI V = st14 V := by
  simp only [afterL_cons, afterL_nil]
  rfl

/-- The clipped edge. -/
theorem q_x1 (j : Fin 5000) : e1 (st1 V (Proc.devRef .tc main_v67)) j = (argsR V).x1 j := by
  unfold st1
  rw [s1_v67]
  unfold st0
  rw [s0_cst_11, s0_cst_12, s0_v66]
  rfl

/-- The clipped edge. -/
theorem q_y1 (j : Fin 5000) : e1 (st3 V (Proc.devRef .tc main_v70)) j = (argsR V).y1 j := by
  unfold st3
  rw [s3_v70]
  unfold st2
  rw [s2_cst_13, s2_cst_14, s2_v69]
  rw [k1 V main_v64 (by decide)]
  unfold st0
  rw [s0_v64_1]
  rfl

/-- The clipped edge. -/
theorem q_x2 (j : Fin 5000) : e1 (st5 V (Proc.devRef .tc main_v73)) j = (argsR V).x2 j := by
  unfold st5
  rw [s5_v73]
  unfold st4
  rw [s4_cst_15, s4_cst_16, s4_v72]
  rw [k3 V main_v64 (by decide), k2 V main_v64 (by decide), k1 V main_v64 (by decide)]
  unfold st0
  rw [s0_v64_2]
  rfl

/-- The clipped edge. -/
theorem q_y2 (j : Fin 5000) : e1 (st7 V (Proc.devRef .tc main_v76)) j = (argsR V).y2 j := by
  unfold st7
  rw [s7_v76]
  unfold st6
  rw [s6_cst_17, s6_cst_18, s6_v75]
  rw [k5 V main_v64 (by decide), k4 V main_v64 (by decide), k3 V main_v64 (by decide), k2 V main_v64 (by decide), k1 V main_v64 (by decide)]
  unfold st0
  rw [s0_v64_3]
  rfl

/-- The clipped edge before the boxes are put together. -/
theorem p_x1 (j : Fin 5000) : e1 (st7 V (Proc.devRef .tc main_v67)) j = (argsR V).x1 j := by
  rw [k7 V main_v67 (by decide), k6 V main_v67 (by decide), k5 V main_v67 (by decide), k4 V main_v67 (by decide), k3 V main_v67 (by decide), k2 V main_v67 (by decide)]
  exact q_x1 V j

/-- The clipped edge before the boxes are put together. -/
theorem p_y1 (j : Fin 5000) : e1 (st7 V (Proc.devRef .tc main_v70)) j = (argsR V).y1 j := by
  rw [k7 V main_v70 (by decide), k6 V main_v70 (by decide), k5 V main_v70 (by decide), k4 V main_v70 (by decide)]
  exact q_y1 V j

/-- The clipped edge before the boxes are put together. -/
theorem p_x2 (j : Fin 5000) : e1 (st7 V (Proc.devRef .tc main_v73)) j = (argsR V).x2 j := by
  rw [k7 V main_v73 (by decide), k6 V main_v73 (by decide)]
  exact q_x2 V j

/-- The clipped edge before the boxes are put together. -/
theorem p_y2 (j : Fin 5000) : e1 (st7 V (Proc.devRef .tc main_v76)) j = (argsR V).y2 j := by
  skip
  exact q_y2 V j

/-- A column of the boxes. -/
theorem c_x1 (j : Fin 5000) : e4 (st8 V (Proc.devRef .tc main_v81)) j 0 = (argsR V).x1 j := by
  unfold st8
  rw [s8_v81_0]
  exact p_x1 V j

/-- A column of the boxes. -/
theorem c_y1 (j : Fin 5000) : e4 (st8 V (Proc.devRef .tc main_v81)) j 1 = (argsR V).y1 j := by
  unfold st8
  rw [s8_v81_1]
  exact p_y1 V j

/-- A column of the boxes. -/
theorem c_x2 (j : Fin 5000) : e4 (st8 V (Proc.devRef .tc main_v81)) j 2 = (argsR V).x2 j := by
  unfold st8
  rw [s8_v81_2]
  exact p_x2 V j

/-- A column of the boxes. -/
theorem c_y2 (j : Fin 5000) : e4 (st8 V (Proc.devRef .tc main_v81)) j 3 = (argsR V).y2 j := by
  unfold st8
  rw [s8_v81_3]
  exact p_y2 V j

/-- The scores. -/
theorem c_sc (j : Fin 5000) : e1 (st8 V (Proc.devRef .tc main_v116)) j = (argsR V).sc j := by
  unfold st8
  rw [s8_v116, k7 V main_arg0 (by decide), k6 V main_arg0 (by decide), k5 V main_arg0 (by decide), k4 V main_arg0 (by decide), k3 V main_arg0 (by decide), k2 V main_arg0 (by decide), k1 V main_arg0 (by decide), k0 V main_arg0 (by decide), k7 V main_arg2 (by decide), k6 V main_arg2 (by decide), k5 V main_arg2 (by decide), k4 V main_arg2 (by decide), k3 V main_arg2 (by decide), k2 V main_arg2 (by decide), k1 V main_arg2 (by decide), k0 V main_arg2 (by decide)]
  rfl
/-- The validity. -/
theorem c_ok (j : Fin 5000) : b1 (st8 V (Proc.devRef .tc main_v119)) j = 1#1 ↔ (argsR V).ok j := by
  unfold st8
  rw [s8_v119, p_x1, p_x2, p_y1, p_y2, k7 V main_arg0 (by decide), k6 V main_arg0 (by decide), k5 V main_arg0 (by decide), k4 V main_arg0 (by decide), k3 V main_arg0 (by decide), k2 V main_arg0 (by decide), k1 V main_arg0 (by decide), k0 V main_arg0 (by decide)]
  rfl
/-- The masked scores, negated. -/
theorem c_sm (j : Fin 5000) : e1 (st10 V (Proc.devRef .tc main_v121)) j = - (argsR V).sm j := by
  unfold st10
  rw [s10_v121]
  unfold st9
  rw [s9_v120]
  have h : e0 (st8 V (Proc.devRef .tc main_cst_27)) = low := s8_cst_27 _
  rw [h, c_sc]
  unfold Args.sm
  refine congrArg _ ?_
  by_cases e : (argsR V).ok j
  · rw [if_pos ((c_ok V j).2 e)]
    exact (if_pos e).symm
  · rw [if_neg fun q => e ((c_ok V j).1 q)]
    exact (if_neg e).symm

/-- The box at a place of the sorted order. -/
def perm : Fin 5000 → Fin 5000 := sigma (st10 V (Proc.devRef .tc main_v121))
/-- The sorted numbers. -/
theorem c_perm (p : Fin 5000) : w1 (st11 V (Proc.devRef .tc main_v122)) p = BitVec.ofNat 32 (perm V p).val := s11_v122 _ p
/-- The sort's comparison is that of the masked scores. -/
theorem perm_ord (i j : Fin 5000) : ordR (st10 V (Proc.devRef .tc main_v121)) i j = true ↔ (argsR V).sm j < (argsR V).sm i := by
  rw [ordR_iff]
  show e1 (st10 V (Proc.devRef .tc main_v121)) i < e1 (st10 V (Proc.devRef .tc main_v121)) j ↔ _
  rw [c_sm, c_sm, EReal.neg_lt_neg_iff]
/-- The sorted order is the order of the boxes. -/
theorem perm_first (p q : Fin 5000) : p < q ↔ (argsR V).first (perm V p) (perm V q) :=
  sorted_better (argsR V).sm (ordR (st10 V (Proc.devRef .tc main_v121))) (perm_ord V) p q
/-- No box stands at two places. -/
theorem perm_inj : Function.Injective (perm V) := by
  intro p q h
  rcases lt_trichotomy p q with hl | he | hl
  · have := (perm_first V p q).1 hl
    rw [h] at this
    exact absurd this (better_irr _ _)
  · exact he
  · have := (perm_first V q p).1 hl
    rw [h] at this
    exact absurd this (better_irr _ _)
/-- Every box stands at a place. -/
theorem perm_surj : Function.Surjective (perm V) := Finite.injective_iff_surjective.1 (perm_inj V)

/-- The overlap of two boxes, as the reference computes it. -/
def iou (A : Args) (i j : Fin 5000) : EReal :=
  Ideal.div (A.inter i j) (((A.area i + A.area j) - A.inter i j) + Ideal.ofBits .f32 0x3089705F#32)

/-- A column of the boxes at the sort. -/
theorem d_col (j : Fin 5000) (k : Fin 4) : e4 (st11 V (Proc.devRef .tc main_v81)) j k = e4 (st8 V (Proc.devRef .tc main_v81)) j k := by
  rw [k11 V main_v81 (by decide), k10 V main_v81 (by decide), k9 V main_v81 (by decide)]
/-- The areas in sorted order. -/
theorem d_area (p : Fin 5000) : e1 (st12 V (Proc.devRef .tc main_v140)) p = (argsR V).area (perm V p) := by
  unfold st12
  rw [s12_v140 (st11 V) (perm V) (c_perm V), d_col, d_col, d_col, d_col, c_x1, c_x2, c_y1, c_y2]
  rfl
/-- The shared width in sorted order. -/
theorem d_wide (p q : Fin 5000) : (id ((st13 V (Proc.devRef .tc main_v156) : Vec Ideal S5000x5000x2 .f32) (ix3 p q 0)) : EReal)
    = max (min ((argsR V).x2 (perm V p)) ((argsR V).x2 (perm V q)) - max ((argsR V).x1 (perm V p)) ((argsR V).x1 (perm V q))) 0 := by
  unfold st13
  rw [s13_v156]
  have h0 : e0 (st12 V (Proc.devRef .tc main_cst_29)) = 0 := s12_cst _
  have h1 := s12_v155 (st11 V) (perm V) (c_perm V) p q 0
  rw [h0, max_comm]
  refine congrArg (fun z => max z 0) ?_
  refine h1.trans ?_
  show min (e4 _ (perm V p) 2) (e4 _ (perm V q) 2) - max (e4 _ (perm V p) 0) (e4 _ (perm V q) 0) = _
  rw [d_col, d_col, d_col, d_col, c_x1, c_x2, c_x1, c_x2]
/-- The shared height in sorted order. -/
theorem d_high (p q : Fin 5000) : (id ((st13 V (Proc.devRef .tc main_v156) : Vec Ideal S5000x5000x2 .f32) (ix3 p q 1)) : EReal)
    = max (min ((argsR V).y2 (perm V p)) ((argsR V).y2 (perm V q)) - max ((argsR V).y1 (perm V p)) ((argsR V).y1 (perm V q))) 0 := by
  unfold st13
  rw [s13_v156]
  have h0 : e0 (st12 V (Proc.devRef .tc main_cst_29)) = 0 := s12_cst _
  have h1 := s12_v155 (st11 V) (perm V) (c_perm V) p q 1
  rw [h0, max_comm]
  refine congrArg (fun z => max z 0) ?_
  refine h1.trans ?_
  show min (e4 _ (perm V p) 3) (e4 _ (perm V q) 3) - max (e4 _ (perm V p) 1) (e4 _ (perm V q) 1) = _
  rw [d_col, d_col, d_col, d_col, c_y1, c_y2, c_y1, c_y2]
/-- The table of overlaps in sorted order. -/
theorem d_iou (p q : Fin 5000) : (id ((st14 V (Proc.devRef .tc main_v179_0) : Vec Ideal S5000x5000 .f32) (ix2 p q)) : EReal)
    = iou (argsR V) (perm V p) (perm V q) := by
  unfold st14
  rw [s14_v179_0, d_wide, d_high, k13 V main_v140 (by decide), d_area, d_area]
  rfl
/-- The validity in sorted order. -/
theorem d_ok (p : Fin 5000) : b1 (st14 V (Proc.devRef .tc main_v179_4)) p = 1#1 ↔ (argsR V).ok (perm V p) := by
  have hp : ∀ p, w1 (st13 V (Proc.devRef .tc main_v122)) p = BitVec.ofNat 32 (perm V p).val := by
    rw [k13 V main_v122 (by decide), k12 V main_v122 (by decide)]
    exact c_perm V
  unfold st14
  rw [s14_v179_4 (st13 V) (perm V) hp, k13 V main_v119 (by decide), k12 V main_v119 (by decide), k11 V main_v119 (by decide), k10 V main_v119 (by decide), k9 V main_v119 (by decide)]
  exact c_ok V _

section ended
variable (V₀ : Dev nD → Valuation τ sig (Elt Ideal)) (c : Dev nD)

/-- The contents when the loop ends. -/
def fin1 : Valuation τ sig (Elt Ideal) := after condOps (atTrip condOps bodyI (fun c => st14 (V₀ c)) 5000 c)
/-- What the loop does not write, it keeps. -/
theorem fin1_keep (r : Ref sig .tc) (hc : r ∉ condOps_W) (hb : r ∉ while0Ops0_W) :
    fin1 V₀ c (Proc.devRef .tc r) = st14 (V₀ c) (Proc.devRef .tc r) := by
  unfold fin1
  rw [cond_keep _ r hc, trips_keep _ c r hc hb]
/-- The marks when the loop ends. -/
theorem fin1_marks (p : Fin 5000) : b1 (fin1 V₀ c (Proc.devRef .tc main_v179_4)) p = 1#1 ↔
    (argsR (V₀ c)).ok (perm (V₀ c) p) ∧ ¬ ∃ q, b1 (fin1 V₀ c (Proc.devRef .tc main_v179_4)) q = 1#1
      ∧ (half < iou (argsR (V₀ c)) (perm (V₀ c) q) (perm (V₀ c) p) ∧ q.val < p.val) := by
  have h := trips_4 (fun c => st14 (V₀ c)) c (s14_v179_3 _) (s14_v179_1 _) p
  unfold fin1
  rw [cond_keep _ main_v179_4 (by decide)]
  refine h.trans (and_congr (d_ok (V₀ c) p) (not_congr (exists_congr fun q => and_congr Iff.rfl (and_congr ?_ Iff.rfl))))
  rw [← d_iou]
/-- The contents after the first stretch behind the loop. -/
def st15 : Valuation τ sig (Elt Ideal) := after hostOps0_15 (fin1 V₀ c)
/-- The contents after the second stretch behind the loop. -/
def st16 : Valuation τ sig (Elt Ideal) := after hostOps0_16 (st15 V₀ c)
/-- The contents at the end. -/
def st17 : Valuation τ sig (Elt Ideal) := after hostOps0_17 (st16 V₀ c)

/-- The boxes kept. -/
def kept (j : Fin 5000) : Prop := b1 (st15 V₀ c (Proc.devRef .tc main_v188)) j = 1#1

/-- A box is kept where its place is marked. -/
theorem kept_perm (p : Fin 5000) : kept V₀ c (perm (V₀ c) p) ↔ b1 (fin1 V₀ c (Proc.devRef .tc main_v179_4)) p = 1#1 := by
  have hp : ∀ p, w1 (fin1 V₀ c (Proc.devRef .tc main_v122)) p = BitVec.ofNat 32 (perm (V₀ c) p).val := by
    rw [fin1_keep V₀ c main_v122 (by decide) (by decide), k14 (V₀ c) main_v122 (by decide), k13 (V₀ c) main_v122 (by decide), k12 (V₀ c) main_v122 (by decide)]
    exact c_perm (V₀ c)
  unfold kept st15
  rw [s15_v188 (fin1 V₀ c) (perm (V₀ c)) hp (perm_inj _), fin1_keep V₀ c main_v119 (by decide) (by decide), k14 (V₀ c) main_v119 (by decide), k13 (V₀ c) main_v119 (by decide), k12 (V₀ c) main_v119 (by decide), k11 (V₀ c) main_v119 (by decide), k10 (V₀ c) main_v119 (by decide), k9 (V₀ c) main_v119 (by decide)]
  have a : ∀ x y : BitVec 1, IntOp.andi x y = 1#1 ↔ x = 1#1 ∧ y = 1#1 := by decide
  rw [a, c_ok]
  constructor
  · exact fun h => h.1
  · exact fun h => ⟨h, ((fin1_marks V₀ c p).1 h).1⟩

/-- The kept boxes are the valid ones that no kept box before them overlaps by more than half. -/
theorem kept_fix (j : Fin 5000) : kept V₀ c j ↔
    step (argsR (V₀ c)).ok (fun i j => half < iou (argsR (V₀ c)) i j ∧ (argsR (V₀ c)).first i j) (kept V₀ c) j := by
  obtain ⟨p, rfl⟩ := perm_surj (V₀ c) j
  rw [kept_perm, fin1_marks]
  refine and_congr Iff.rfl (not_congr ?_)
  constructor
  · rintro ⟨q, hq, hb, hl⟩
    exact ⟨perm (V₀ c) q, (kept_perm V₀ c q).2 hq, hb, (perm_first (V₀ c) q p).1 hl⟩
  · rintro ⟨i, hi, hb, hf⟩
    obtain ⟨q, rfl⟩ := perm_surj (V₀ c) i
    exact ⟨q, (kept_perm V₀ c q).1 hi, hb, (perm_first (V₀ c) q p).2 hf⟩

open scoped Classical in
/-- The scores that the selection sees. -/
def finR (j : Fin 5000) : EReal := if kept V₀ c j then (argsR (V₀ c)).sc j else low

/-- The scores that the selection sees are in its buffer. -/
theorem fin_at (j : Fin 5000) : e1 (st16 V₀ c (Proc.devRef .tc main_v189)) j = finR V₀ c j := by
  unfold st16
  rw [s16_v189]
  have h : e0 (st15 V₀ c (Proc.devRef .tc main_cst_38)) = low := s15_cst _
  have h1 : st15 V₀ c (Proc.devRef .tc main_v116) = fin1 V₀ c (Proc.devRef .tc main_v116) :=
    after_of_writes_sub hostOps0_15 _ hostOps0_15_writes (by decide)
  rw [h, h1, fin1_keep V₀ c main_v116 (by decide) (by decide), k14 (V₀ c) main_v116 (by decide), k13 (V₀ c) main_v116 (by decide), k12 (V₀ c) main_v116 (by decide), k11 (V₀ c) main_v116 (by decide), k10 (V₀ c) main_v116 (by decide), k9 (V₀ c) main_v116 (by decide), c_sc]
  unfold Scalar.select finR kept
  by_cases e : b1 (st15 V₀ c (Proc.devRef .tc main_v188)) j = 1#1
  · rw [if_pos e]
    exact if_pos e
  · rw [if_neg e]
    exact if_neg e

/-- The box selected at a place. -/
def sel (r : Fin 5000) : Fin 5000 := tau (st16 V₀ c (Proc.devRef .tc main_v189)) r
/-- The selected box has as many boxes before it as its place says. -/
theorem sel_rank (r : Fin 5000) : rank (finR V₀ c) (sel V₀ c r) = r.val := by
  refine rank_sorted (finR V₀ c) (ordT (st16 V₀ c (Proc.devRef .tc main_v189))) ?_ r
  intro i j
  rw [ordT_iff]
  show e1 (st16 V₀ c (Proc.devRef .tc main_v189)) j < e1 (st16 V₀ c (Proc.devRef .tc main_v189)) i ↔ _
  rw [fin_at, fin_at]

/-- The boxes the reference returns. -/
theorem end_v196 (r : Fin 300) (k : Fin 4) : (id ((st17 V₀ c (Proc.devRef .tc main_v196) : Vec Ideal S300x4 .f32) (ix2 r k)) : EReal)
    = e4 (st8 (V₀ c) (Proc.devRef .tc main_v81)) (sel V₀ c ⟨r.val, by omega⟩) k := by
  unfold st17
  rw [s17_v196]
  have h2 : st16 V₀ c (Proc.devRef .tc main_v81) = st15 V₀ c (Proc.devRef .tc main_v81) :=
    after_of_writes_sub hostOps0_16 _ hostOps0_16_writes (by decide)
  have h1 : st15 V₀ c (Proc.devRef .tc main_v81) = fin1 V₀ c (Proc.devRef .tc main_v81) :=
    after_of_writes_sub hostOps0_15 _ hostOps0_15_writes (by decide)
  rw [h2, h1, fin1_keep V₀ c main_v81 (by decide) (by decide), k14 (V₀ c) main_v81 (by decide), k13 (V₀ c) main_v81 (by decide), k12 (V₀ c) main_v81 (by decide), k11 (V₀ c) main_v81 (by decide), k10 (V₀ c) main_v81 (by decide), k9 (V₀ c) main_v81 (by decide)]
  rfl
/-- The scores the reference returns. -/
theorem end_v203 (r : Fin 300) : (id ((st17 V₀ c (Proc.devRef .tc main_v203) : Vec Ideal S300 .f32) (ix1 r)) : EReal)
    = (argsR (V₀ c)).sc (sel V₀ c ⟨r.val, by omega⟩) := by
  unfold st17
  rw [s17_v203]
  have h2 : st16 V₀ c (Proc.devRef .tc main_v116) = st15 V₀ c (Proc.devRef .tc main_v116) :=
    after_of_writes_sub hostOps0_16 _ hostOps0_16_writes (by decide)
  have h1 : st15 V₀ c (Proc.devRef .tc main_v116) = fin1 V₀ c (Proc.devRef .tc main_v116) :=
    after_of_writes_sub hostOps0_15 _ hostOps0_15_writes (by decide)
  rw [h2, h1, fin1_keep V₀ c main_v116 (by decide) (by decide), k14 (V₀ c) main_v116 (by decide), k13 (V₀ c) main_v116 (by decide), k12 (V₀ c) main_v116 (by decide), k11 (V₀ c) main_v116 (by decide), k10 (V₀ c) main_v116 (by decide), k9 (V₀ c) main_v116 (by decide), c_sc]
  rfl
/-- The classes the reference returns. -/
theorem end_v204 (r : Fin 300) : (st17 V₀ c (Proc.devRef .tc main_v204) : IVec S300 32) (ix1 r) = 1#32 := s17_v204 _ r
end ended
end Cert.ReferenceIdeal.Own
end
-- ==== Proof.Overlap.lean ====
module

public import proofs.«01_k».proof.Proof.Spec

/-!
# The two tests of overlap agree, and scores are not negative

The reference divides the shared area by the joined area and compares with one half; the kernel compares without dividing.
-/

@[expose] public section
noncomputable section
namespace Cert.Nms
open Idealize.ShloMosaic

/-- One half as a real number. -/
theorem half_val : half = ((1 / 2 : ℝ) : EReal) := by
  unfold half; simp [Ideal.ofBits, Ideal.ieee, -EReal.coe_mul]; norm_num
/-- The width of the image as a real number. -/
theorem wide_val : wide = ((1500 : ℝ) : EReal) := by
  unfold wide; simp [Ideal.ofBits, Ideal.ieee, -EReal.coe_mul]; norm_num
/-- The height of the image as a real number. -/
theorem high_val : high = ((900 : ℝ) : EReal) := by
  unfold high; simp [Ideal.ofBits, Ideal.ieee, -EReal.coe_mul]; norm_num
/-- The score of a box that is out is −1. -/
theorem low_val : low = ((-1 : ℝ) : EReal) := by
  unfold low; simp [Ideal.ofBits, Ideal.ieee, -EReal.coe_mul]; norm_num
/-- The least side as a real number. -/
theorem small_val : small = ((10737418 * (2 : ℝ) ^ (-30 : ℤ) : ℝ) : EReal) := by
  unfold small; simp [Ideal.ofBits, Ideal.ieee, -EReal.coe_mul]
/-- The least class probability is not negative. -/
theorem least_pos : 0 ≤ least := by
  have : least = ((13421773 * (2 : ℝ) ^ (-28 : ℤ) : ℝ) : EReal) := by
    unfold least; simp [Ideal.ofBits, Ideal.ieee, -EReal.coe_mul]
  rw [this]
  exact EReal.coe_nonneg.2 (by positivity)
/-- The number the reference adds to the joined area. -/
theorem eps_val : Ideal.ofBits .f32 0x3089705F#32 = ((9007199 * (2 : ℝ) ^ (-53 : ℤ) : ℝ) : EReal) := by
  simp [Ideal.ofBits, Ideal.ieee, -EReal.coe_mul]
/-- The number the kernel adds is half of it. -/
theorem eps_half : Ideal.ofBits .f32 0x3009705F#32 = ((9007199 * (2 : ℝ) ^ (-54 : ℤ) : ℝ) : EReal) := by
  simp [Ideal.ofBits, Ideal.ieee, -EReal.coe_mul]
/-- The kernel's factor is three halves. -/
theorem three_half : Ideal.ofBits .f32 0x3FC00000#32 = ((3 / 2 : ℝ) : EReal) := by
  simp [Ideal.ofBits, Ideal.ieee, -EReal.coe_mul]; norm_num

/-- A clipped number is a real number. -/
theorem clip_real (b : ℝ) (hb : 0 ≤ b) (v : EReal) : ∃ r : ℝ, clip b v = (r : EReal) := by
  have h0 : 0 ≤ clip b v := le_min (EReal.coe_nonneg.2 hb) (le_max_left _ _)
  have h1 : clip b v ≤ b := min_le_left _ _
  exact ⟨(clip b v).toReal, (EReal.coe_toReal (ne_top_of_le_ne_top (EReal.coe_ne_top b) h1)
    (ne_bot_of_le_ne_bot EReal.zero_ne_bot h0)).symm⟩

namespace Args
variable (A : Args) (i j : Fin 5000)

/-- A left edge is a real number. -/
theorem x1_real : ∃ r : ℝ, A.x1 j = r := by unfold x1 lower; rw [wide_val]; exact clip_real _ (by norm_num) _
/-- A right edge is a real number. -/
theorem x2_real : ∃ r : ℝ, A.x2 j = r := by unfold x2 upper; rw [wide_val]; exact clip_real _ (by norm_num) _
/-- A top edge is a real number. -/
theorem y1_real : ∃ r : ℝ, A.y1 j = r := by unfold y1 lower; rw [high_val]; exact clip_real _ (by norm_num) _
/-- A bottom edge is a real number. -/
theorem y2_real : ∃ r : ℝ, A.y2 j = r := by unfold y2 upper; rw [high_val]; exact clip_real _ (by norm_num) _

/-- The two tests on real numbers. -/
theorem tests_real (a b I e : ℝ) (ha : 0 < a) (hb : 0 < b) (he : 0 < e) (hI : 0 ≤ I) (hIa : I ≤ a) :
    ((1 / 2 : ℝ) : EReal) < Ideal.div (I : EReal) ((((a : EReal) + (b : EReal)) - (I : EReal)) + ((e : ℝ) : EReal))
      ↔ ((a : EReal) * ((1 / 2 : ℝ) : EReal) + ((e / 2 : ℝ) : EReal)) + ((1 / 2 : ℝ) : EReal) * (b : EReal)
        < ((3 / 2 : ℝ) : EReal) * (I : EReal) := by
  have hD : (0 : ℝ) < a + b - I + e := by linarith
  rw [← EReal.coe_add, ← EReal.coe_sub, ← EReal.coe_add, Ideal.div_coe hD.ne', ← EReal.coe_mul, ← EReal.coe_mul, ← EReal.coe_mul,
    ← EReal.coe_mul, ← EReal.coe_add, ← EReal.coe_add, EReal.coe_lt_coe_iff, EReal.coe_lt_coe_iff, mul_one_div, lt_div_iff₀ hD]
  constructor <;> intro h <;> linarith

/-- For two valid boxes, overlapping by more than half is what the kernel tests. -/
theorem overlap_iff (hi : A.ok i) (hj : A.ok j) :
    half < Ideal.div (A.inter i j) (((A.area i + A.area j) - A.inter i j) + Ideal.ofBits .f32 0x3089705F#32)
      ↔ (A.area i * half + Ideal.ofBits .f32 0x3009705F#32) + half * A.area j < Ideal.ofBits .f32 0x3FC00000#32 * A.inter i j := by
  obtain ⟨⟨wi, ti⟩, -⟩ := hi
  obtain ⟨⟨wj, tj⟩, -⟩ := hj
  obtain ⟨a1, ha1⟩ := A.x1_real i
  obtain ⟨a2, ha2⟩ := A.x2_real i
  obtain ⟨b1, hb1⟩ := A.y1_real i
  obtain ⟨b2, hb2⟩ := A.y2_real i
  obtain ⟨c1, hc1⟩ := A.x1_real j
  obtain ⟨c2, hc2⟩ := A.x2_real j
  obtain ⟨d1, hd1⟩ := A.y1_real j
  obtain ⟨d2, hd2⟩ := A.y2_real j
  unfold inter area
  rw [ha1, ha2, small_val, ← EReal.coe_sub, EReal.coe_le_coe_iff] at wi
  rw [hb1, hb2, small_val, ← EReal.coe_sub, EReal.coe_le_coe_iff] at ti
  rw [hc1, hc2, small_val, ← EReal.coe_sub, EReal.coe_le_coe_iff] at wj
  rw [hd1, hd2, small_val, ← EReal.coe_sub, EReal.coe_le_coe_iff] at tj
  have hs : (0 : ℝ) < 10737418 * (2 : ℝ) ^ (-30 : ℤ) := by positivity
  rw [ha1, ha2, hb1, hb2, hc1, hc2, hd1, hd2, half_val, eps_val, eps_half, three_half]
  have e2 : (9007199 * (2 : ℝ) ^ (-54 : ℤ) : ℝ) = (9007199 * (2 : ℝ) ^ (-53 : ℤ)) / 2 := by norm_num
  rw [e2]
  have cmx : ∀ x y : ℝ, max (x : EReal) (y : EReal) = ((max x y : ℝ) : EReal) := fun x y => (EReal.coe_strictMono.monotone.map_max).symm
  have cmn : ∀ x y : ℝ, min (x : EReal) (y : EReal) = ((min x y : ℝ) : EReal) := fun x y => (EReal.coe_strictMono.monotone.map_min).symm
  have cz : ∀ x : ℝ, max (x : EReal) 0 = ((max x 0 : ℝ) : EReal) := fun x => cmx x 0
  rw [cmx, cmn, cmx, cmn, ← EReal.coe_sub, ← EReal.coe_sub, cz, cz, ← EReal.coe_mul, ← EReal.coe_sub, ← EReal.coe_sub, ← EReal.coe_sub, ← EReal.coe_sub,
    ← EReal.coe_mul, ← EReal.coe_mul]
  have h1 : max (min a2 c2 - max a1 c1) 0 ≤ a2 - a1 :=
    max_le (by have := min_le_left a2 c2; have := le_max_left a1 c1; linarith) (by linarith)
  have h2 : max (min b2 d2 - max b1 d1) 0 ≤ b2 - b1 :=
    max_le (by have := min_le_left b2 d2; have := le_max_left b1 d1; linarith) (by linarith)
  exact tests_real _ _ _ _ (mul_pos (by linarith) (by linarith)) (mul_pos (by linarith) (by linarith)) (by positivity)
    (mul_nonneg (le_max_right _ _) (le_max_right _ _)) (mul_le_mul h1 h2 (le_max_right _ _) (by linarith))

/-- An exponential is not negative. -/
theorem exp_nonneg (x : EReal) : 0 ≤ Ideal.exp x := by
  induction x with
  | bot => exact le_rfl
  | top => exact le_top
  | coe r => exact EReal.coe_nonneg.2 (Real.exp_pos r).le

/-- A valid box's score is not negative. -/
theorem sc_nonneg (h : A.ok j) : 0 ≤ A.sc j := by
  have hp : 0 ≤ prob (A.C j 0) (A.C j 1) := least_pos.trans (le_of_lt h.2)
  have he : (0 : EReal) ≤ Ideal.exp (0 - A.Q j) := exp_nonneg _
  have h1 : (0 : EReal) < 1 + Ideal.exp (0 - A.Q j) := lt_of_lt_of_le zero_lt_one (le_add_of_nonneg_right he)
  have hd : 0 ≤ Ideal.div 1 (1 + Ideal.exp (0 - A.Q j)) := by
    unfold Ideal.div
    rw [if_neg h1.ne', one_mul]
    exact EReal.inv_nonneg_of_nonneg h1.le
  exact mul_nonneg hd hp

/-- A box that is out scores below zero. -/
theorem low_neg : low < 0 := by
  rw [low_val]
  exact EReal.coe_neg'.2 (by norm_num)

end Args
end Cert.Nms
end
-- ==== Proof.Match.lean ====
module

public import proofs.«01_k».proof.Proof.KOut
public import proofs.«01_k».proof.Proof.KRows
public import proofs.«01_k».proof.Proof.RVal
public import proofs.«01_k».proof.Proof.Overlap

/-!
# Both programs keep the same boxes, rank them alike, and return the same arrays
-/

@[expose] public section
set_option maxRecDepth 65536
noncomputable section

namespace Cert.Nms
/-- Elements put behind all others, none of a greater key, change no other's rank. -/
theorem rank_pad {N M : ℕ} (f : Fin M → EReal) (g : Fin N → EReal) (u : Fin N → Fin M) (hu : ∀ j, (u j).val = j.val)
    (hf : ∀ j, f (u j) = g j) (hp : ∀ l : Fin M, N ≤ l.val → ∀ j, f l ≤ g j) (j : Fin N) : rank f (u j) = rank g j := by
  classical
  have hinj : Function.Injective u := fun a b h => Fin.ext (by rw [← hu a, ← hu b, h])
  unfold rank before
  have : (Finset.univ.filter fun l => better f l (u j)) = (Finset.univ.filter fun i => better g i j).map ⟨u, hinj⟩ := by
    ext l
    simp only [Finset.mem_filter, Finset.mem_univ, true_and, Finset.mem_map, Function.Embedding.coeFn_mk]
    constructor
    · intro h
      by_cases hl : l.val < N
      · have e : u ⟨l.val, hl⟩ = l := Fin.ext (hu _)
        refine ⟨⟨l.val, hl⟩, ?_, e⟩
        rw [← e] at h
        unfold better at h ⊢
        rw [hf, hf, hu, hu] at h
        exact h
      · exfalso
        have h1 := hp l (not_lt.1 hl) j
        rcases h with h | ⟨_, h⟩
        · rw [hf] at h
          exact absurd h (not_lt.2 h1)
        · rw [hu] at h
          have := j.isLt
          omega
    · rintro ⟨i, h, rfl⟩
      unfold better at h ⊢
      rw [hf, hf, hu, hu]
      exact h
  rw [this, Finset.card_map]
end Cert.Nms

namespace Cert.Both
open Idealize.ShloMosaic Idealize.ShloMosaic.TcCoe Idealize.SL.Sem
open Cert.Nms Cert.KernelIdeal.Own
open Cert.ReferenceIdeal.Own (iou kept kept_fix argsR finR sel sel_rank st8 st17)

/-- Vectors with the same entries are the same. -/
theorem arr_ext1 {α : Type} {n : ℕ} {x y : (⟨1, ![n]⟩ : Shape).Idx → α} (h : ∀ r, x (ix1 r) = y (ix1 r)) : x = y :=
  funext fun i => by
    rw [← ix1_eta i]
    exact h _

/-- Tables with the same entries are the same. -/
theorem arr_ext2 {α : Type} {n k : ℕ} {x y : (⟨2, ![n, k]⟩ : Shape).Idx → α} (h : ∀ r c, x (ix2 r c) = y (ix2 r c)) : x = y :=
  funext fun i => by
    rw [← ix2_eta i]
    exact h _ _

variable (m : (ℓ : Loc Cert.KernelIdeal.nD Cert.KernelIdeal.τ Cert.KernelIdeal.sig) → Buf (Elt Ideal) ℓ)
  (V₀ : Dev Cert.ReferenceIdeal.nD → Valuation Cert.ReferenceIdeal.τ Cert.ReferenceIdeal.sig (Elt Ideal))
  (c : Dev Cert.KernelIdeal.nD) (hA : argsR (V₀ c) = argsK m c)
include hA

/-- The kernel keeps the boxes the reference keeps. -/
theorem same_kept (j : Fin 5000) : keeps (inp m c) (up j) ↔ kept V₀ c j := by
  refine fix_unique (valid := (argsK m c).ok) (S := fun i j => half < iou (argsK m c) i j ∧ (argsK m c).first i j)
    (rank (argsK m c).sm) (fun i j h => before_mono _ (better_irr _) (better_trans _) i j h.2)
    (K := fun j => keeps (inp m c) (up j)) (L := kept V₀ c) ?_ ?_ j
  · intro j
    have h : keeps (inp m c) (up j) ↔ step (okBox (inp m c)) (supp (inp m c)) (keeps (inp m c)) (up j) :=
      iff_of_eq (congrFun (keeps_fix (inp m c)) (up j)).symm
    have hk : ∀ l, keeps (inp m c) l → okBox (inp m c) l := fun l hl => by
      rw [← keeps_fix] at hl
      exact hl.1
    refine h.trans ?_
    unfold step
    rw [bOk]
    refine and_congr_right fun hj => not_congr ?_
    constructor
    · rintro ⟨l, hl, hs⟩
      have e : up ⟨l.val, ok_lt m c (hk l hl)⟩ = l := Fin.ext rfl
      rw [← e] at hl hs
      have hi := (bOk m c _).1 (hk _ hl)
      exact ⟨_, hl, ((argsK m c).overlap_iff _ _ hi hj).2 ((bOverl m c _ _).1 hs.1), (bPrec m c _ _).1 hs.2⟩
    · rintro ⟨i, hl, hb, hf⟩
      have hi := (bOk m c _).1 (hk _ hl)
      exact ⟨up i, hl, (bOverl m c _ _).2 (((argsK m c).overlap_iff _ _ hi hj).1 hb), (bPrec m c _ _).2 hf⟩
  · intro j
    rw [← hA]
    exact kept_fix V₀ c j

/-- The kernel ranks a box by the reference's number. -/
theorem same_fin (j : Fin 5000) : fin (inp m c) (up j) = finR V₀ c j := by
  classical
  unfold fin finR
  rw [rFin_at, bSc, hA]
  exact if_congr (same_kept m V₀ c hA j) rfl rfl

/-- A lane behind the boxes ranks by −1, and no box by less. -/
theorem pad_le (l : Fin 5120) (hl : 5000 ≤ l.val) (j : Fin 5000) : fin (inp m c) l ≤ finR V₀ c j := by
  classical
  have h : ¬ keeps (inp m c) l := fun h => by
    rw [← keeps_fix] at h
    have := ok_lt m c h.1
    omega
  unfold fin finR
  rw [rFin_at, if_neg h]
  by_cases e : kept V₀ c j
  · rw [if_pos e]
    exact Args.low_neg.le.trans (Args.sc_nonneg _ j ((kept_fix V₀ c j).1 e).1)
  · rw [if_neg e]

/-- The box the reference selects at a place has that rank in the kernel. -/
theorem same_rank (r : Fin 5000) : rank (fin (inp m c)) (up (sel V₀ c r)) = r.val := by
  rw [rank_pad (fin (inp m c)) (finR V₀ c) up (fun _ => rfl) (same_fin m V₀ c hA) (pad_le m V₀ c hA)]
  exact sel_rank V₀ c r

/-- The boxes are the same. -/
theorem same_boxes : (st17 V₀ c (Proc.devRef .tc Cert.ReferenceIdeal.main_v196) : Vec Ideal Cert.ReferenceIdeal.S300x4 .f32)
    = boxes (out (inp m c)) := by
  refine arr_ext2 fun r k => ?_
  have h := out_at (inp m c) (up (sel V₀ c ⟨r.val, by omega⟩)) ⟨r.val, by omega⟩ (same_rank m V₀ c hA _)
  have hb : boxes (out (inp m c)) (ix2 r k) = out (inp m c) (ix2 ⟨k.val, by omega⟩ ⟨r.val, by omega⟩) := by
    pointwise [boxes]
  rw [hb, h]
  refine (Cert.ReferenceIdeal.Own.end_v196 V₀ c r k).trans ?_
  match k with
  | ⟨0, _⟩ => exact (Cert.ReferenceIdeal.Own.c_x1 _ _).trans ((congrArg (fun A : Args => A.x1 (sel V₀ c ⟨r.val, by omega⟩)) hA).trans ((Cert.KernelIdeal.Own.val0 _ _).trans (bX1 m c _)).symm)
  | ⟨1, _⟩ => exact (Cert.ReferenceIdeal.Own.c_y1 _ _).trans ((congrArg (fun A : Args => A.y1 (sel V₀ c ⟨r.val, by omega⟩)) hA).trans ((Cert.KernelIdeal.Own.val1 _ _).trans (bY1 m c _)).symm)
  | ⟨2, _⟩ => exact (Cert.ReferenceIdeal.Own.c_x2 _ _).trans ((congrArg (fun A : Args => A.x2 (sel V₀ c ⟨r.val, by omega⟩)) hA).trans ((Cert.KernelIdeal.Own.val2 _ _).trans (bX2 m c _)).symm)
  | ⟨3, _⟩ => exact (Cert.ReferenceIdeal.Own.c_y2 _ _).trans ((congrArg (fun A : Args => A.y2 (sel V₀ c ⟨r.val, by omega⟩)) hA).trans ((Cert.KernelIdeal.Own.val3 _ _).trans (bY2 m c _)).symm)

/-- The scores are the same. -/
theorem same_scores : (st17 V₀ c (Proc.devRef .tc Cert.ReferenceIdeal.main_v203) : Vec Ideal Cert.ReferenceIdeal.S300 .f32)
    = scores (out (inp m c)) := by
  refine arr_ext1 fun r => ?_
  have h := out_at (inp m c) (up (sel V₀ c ⟨r.val, by omega⟩)) ⟨r.val, by omega⟩ (same_rank m V₀ c hA _)
  have hb : scores (out (inp m c)) (ix1 r) = out (inp m c) (ix2 4 ⟨r.val, by omega⟩) := by
    pointwise [scores]
  rw [hb, h]
  refine (Cert.ReferenceIdeal.Own.end_v203 V₀ c r).trans ?_
  exact (congrArg (fun A : Args => A.sc (sel V₀ c ⟨r.val, by omega⟩)) hA).trans ((Cert.KernelIdeal.Own.val4 _ _).trans (bSc m c _)).symm

omit hA in
/-- The classes are the same. -/
theorem same_classes : (st17 V₀ c (Proc.devRef .tc Cert.ReferenceIdeal.main_v204) : IVec Cert.ReferenceIdeal.S300 32) = classes := by
  refine arr_ext1 fun r => ?_
  refine (Cert.ReferenceIdeal.Own.end_v204 V₀ c r).trans ?_
  pointwise [classes]

end Cert.Both

namespace Cert.ReferenceIdeal.Own
open Idealize.ShloMosaic Idealize.ShloMosaic.TcCoe Idealize.ShloMosaic.StableHlo Idealize.SL.Sem
open Cert.ReferenceIdeal Cert.ReferenceIdeal.Gen Cert.ReferenceIdeal.Value

/-- The reference's end is the last stretch's. -/
theorem final_eq (m : (ℓ : Loc nD τ sig) → Buf (Elt Ideal) ℓ) (c : Dev nD) (r : Ref sig .tc) :
    finalContents condOps preI bodyI postI 5000 m c (Proc.devRef .tc r) = st17 (fun c => launchContents m c) c (Proc.devRef .tc r) := by
  show afterL postI (after condOps (atTrip condOps bodyI (fun c => afterL preI (launchContents m c)) 5000 c)) _ = _
  rw [show (fun c => afterL preI (launchContents m c)) = fun c => st14 (launchContents m c) from funext fun c => st_all _]
  rfl
end Cert.ReferenceIdeal.Own

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.RefFrame
public import proofs.«01_k».proof.Proof.KRun
public import proofs.«01_k».proof.Proof.KRest
public import proofs.«01_k».proof.Proof.Match

@[expose] public section

noncomputable section

namespace Cert.Proof

open Idealize.ShloMosaic Idealize.SL.Sem

/-- The kernel runs to its end, without fault, leaves its arguments as they were and every counter at zero. -/
theorem frame_kernel : Cert.quiescent_KernelIdeal (hKernelIdeal := Cert.KernelIdeal.Gen.facts) := by
  intro m ρ _
  refine (θ_run _ _ _).mono ?_ (Cert.KernelIdeal.Own.run_values m ρ fun c => Cert.KernelIdeal.Own.kept_rest _)
  intro r h
  exact ⟨fun c => (h.1 c).2, h.2⟩

/-- From the same arguments, kernel and reference return the same boxes, scores and classes. -/
theorem same_results : Cert.algebraic_KernelIdeal_ReferenceIdeal (hKernelIdeal := Cert.KernelIdeal.Gen.facts)
    (hReferenceIdeal := Cert.ReferenceIdeal.Gen.facts) := by
  intro m ρ m' ρ' _ hm
  have hA : ∀ c : Dev Cert.KernelIdeal.nD,
      Cert.ReferenceIdeal.Own.argsR (StableHlo.launchContents m' c) = Cert.KernelIdeal.Own.argsK m c := by
    intro c
    obtain ⟨h0, h1, h2, h3⟩ := hm c
    have e3 : (StableHlo.launchContents m' c) (Proc.devRef .tc Cert.ReferenceIdeal.main_arg3) = Cert.KernelIdeal.Own.argP m c := h3
    have e1 : (StableHlo.launchContents m' c) (Proc.devRef .tc Cert.ReferenceIdeal.main_arg1) = Cert.KernelIdeal.Own.argR m c := h1
    have e0 : (StableHlo.launchContents m' c) (Proc.devRef .tc Cert.ReferenceIdeal.main_arg0) = Cert.KernelIdeal.Own.argC m c := h0
    have e2 : (StableHlo.launchContents m' c) (Proc.devRef .tc Cert.ReferenceIdeal.main_arg2) = Cert.KernelIdeal.Own.argQ m c := h2
    unfold Cert.ReferenceIdeal.Own.argsR Cert.KernelIdeal.Own.argsK
    rw [e0, e1, e2, e3]
  refine ⟨fun c => Cert.KernelIdeal.Own.boxes (Cert.KernelIdeal.Own.out (Cert.KernelIdeal.Own.inp m c)),
    fun c => Cert.KernelIdeal.Own.scores (Cert.KernelIdeal.Own.out (Cert.KernelIdeal.Own.inp m c)),
    fun _ => Cert.KernelIdeal.Own.classes, ?_, ?_⟩
  · refine (θ_run _ _ _).mono ?_ (Cert.KernelIdeal.Own.run_values m ρ fun c => Cert.KernelIdeal.Own.kept_rest _)
    intro r h c
    obtain ⟨⟨a, b, d⟩, e⟩ := h.1 c
    exact ⟨a, b, d, e⟩
  · refine (θ_run _ _ _).mono ?_ (Cert.ReferenceIdeal.Value.run_fold m' ρ')
    intro r h c
    refine ⟨?_, ?_, ?_, (h c Cert.ReferenceIdeal.main_arg0 rfl).trans (Cert.ReferenceIdeal.Own.final_arg0 m' c),
      (h c Cert.ReferenceIdeal.main_arg1 rfl).trans (Cert.ReferenceIdeal.Own.final_arg1 m' c),
      (h c Cert.ReferenceIdeal.main_arg2 rfl).trans (Cert.ReferenceIdeal.Own.final_arg2 m' c),
      (h c Cert.ReferenceIdeal.main_arg3 rfl).trans (Cert.ReferenceIdeal.Own.final_arg3 m' c)⟩
    · exact ((h c Cert.ReferenceIdeal.main_v196 rfl).trans (Cert.ReferenceIdeal.Own.final_eq m' c _)).trans (Cert.Both.same_boxes m _ c (hA c))
    · exact ((h c Cert.ReferenceIdeal.main_v203 rfl).trans (Cert.ReferenceIdeal.Own.final_eq m' c _)).trans (Cert.Both.same_scores m _ c (hA c))
    · exact ((h c Cert.ReferenceIdeal.main_v204 rfl).trans (Cert.ReferenceIdeal.Own.final_eq m' c _)).trans (Cert.Both.same_classes _ c)

/-- The claim: kernel and reference run to their ends, without fault, leave their arguments as they were, and return the same
arrays. -/
theorem claim : Cert.Claim :=
  ⟨Cert.KernelIdeal.Gen.facts, Cert.ReferenceIdeal.Gen.facts, frame_kernel, fun m ρ _ => Cert.ReferenceIdeal.Own.frame m ρ,
    same_results⟩

end Cert.Proof

end
